-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  IdealRules.named_const.Statement Cert.KernelIdeal.κ "mean" .f32 0x36A7C5AC#32 ((1 / 200000 : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4000x50x64 : Shape := ⟨3, ![4000, 50, 64]⟩
abbrev S2x200 : Shape := ⟨2, ![2, 200]⟩
abbrev S4000x200x16 : Shape := ⟨3, ![4000, 200, 16]⟩
abbrev S64x64 : Shape := ⟨2, ![64, 64]⟩
abbrev S64 : Shape := ⟨1, ![64]⟩
abbrev S16 : Shape := ⟨1, ![16]⟩
abbrev S192x16 : Shape := ⟨2, ![192, 16]⟩
abbrev S_ : Shape := ⟨0, ![]⟩

class Facts : Prop where
  bcast_S_S2x200 : S_.BroadcastsInDim S2x200 (![] : Fin 0 → Fin S2x200.rank)
  reducesTo_S2x200_S_d0_1 : S2x200.ReducesTo [0, 1] S_
  h_S_ : 0 < S_.numel
  bcast_S_S4000x50x64 : S_.BroadcastsInDim S4000x50x64 (![] : Fin 0 → Fin S4000x50x64.rank)
  reducesTo_S4000x50x64_S_d0_1_2 : S4000x50x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg11 : FVec F S64 .f32) (main_v50 : IVec S_ 1) : IVec S_ 1 :=
  let main_v51 : FVec F S64 .f32 := Host.absf main_arg11
  let main_cst_19 : FVec F S_ .f32 := constant S_ .f32 0x7F800000#32
  let main_v52 : FVec F S64 .f32 := broadcastInDim S64 ![] bcast_S_S64 main_cst_19
  let main_v53 : IVec S64 1 := cmpf .olt main_v51 main_v52
  let main_c_20 : IVec S_ 1 := constantI S_ 1 1#1
  let main_v54 : IVec S_ 1 := (fun x v => Host.reduce IntOp.andi x v reducesTo_S64_S_d0 h_S_) main_v53 main_c_20
  let main_v55 : IVec S_ 1 := andi main_v50 main_v54
  main_v55

def fn_part2 {F : FTy → Type} [FloatOps F] (main_arg8 : FVec F S64 .f32) (main_arg9 : FVec F S64 .f32) (main_arg10 : FVec F S64 .f32) (main_arg11 : FVec F S64 .f32) (main_v30 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v30 main_v34
  let main_v36 : FVec F S64 .f32 := Host.absf main_arg8
  let main_cst_13 : FVec F S_ .f32 := constant S_ .f32 0x7F800000#32
  let main_v37 : FVec F S64 .f32 := broadcastInDim S64 ![] bcast_S_S64 main_cst_13
  let main_v38 : IVec S64 1 := cmpf .olt main_v36 main_v37
  let main_c_14 : IVec S_ 1 := constantI S_ 1 1#1
  let main_v39 : IVec S_ 1 := (fun x v => Host.reduce IntOp.andi x v reducesTo_S64_S_d0 h_S_) main_v38 main_c_14
  let main_v40 : IVec S_ 1 := andi main_v35 main_v39
  let main_v41 : FVec F S64 .f32 := Host.absf main_arg9
  let main_cst_15 : FVec F S_ .f32 := constant S_ .f32 0x7F800000#32
  let main_v42 : FVec F S64 .f32 := broadcastInDim S64 ![] bcast_S_S64 main_cst_15
  let main_v43 : IVec S64 1 := cmpf .olt main_v41 main_v42
  let main_c_16 : IVec S_ 1 := constantI S_ 1 1#1
  let main_v44 : IVec S_ 1 := (fun x v => Host.reduce IntOp.andi x v reducesTo_S64_S_d0 h_S_) main_v43 main_c_16
  let main_v45 : IVec S_ 1 := andi main_v40 main_v44
  let main_v46 : FVec F S64 .f32 := Host.absf main_arg10
  let main_cst_17 : FVec F S_ .f32 := constant S_ .f32 0x7F800000#32
  let main_v47 : FVec F S64 .f32 := broadcastInDim S64 ![] bcast_S_S64 main_cst_17
  let main_v48 : IVec S64 1 := cmpf .olt main_v46 main_v47
  let main_c_18 : IVec S_ 1 := constantI S_ 1 1#1
  let main_v49 : IVec S_ 1 := (fun x v => Host.reduce IntOp.andi x v reducesTo_S64_S_d0 h_S_) main_v48 main_c_18
  let main_v50 : IVec S_ 1 := andi main_v45 main_v49
  fn_part3 (F := F) main_arg11 main_v50

def fn_part1 {F : FTy → Type} [FloatOps F] (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64 .f32) (main_v15 : IVec S_ 1) (main_v16 : FVec F S64x64 .f32) : IVec S_ 1 :=
  let main_cst_5 : FVec F S_ .f32 := constant S_ .f32 0x7F800000#32
  let main_v17 : FVec F S64x64 .f32 := broadcastInDim S64x64 ![] bcast_S_S64x64 main_cst_5
  let main_v18 : IVec S64x64 1 := cmpf .olt main_v16 main_v17
  let main_c_6 : IVec S_ 1 := constantI S_ 1 1#1
  let main_v19 : IVec S_ 1 := (fun x v => Host.reduce IntOp.andi x v reducesTo_S64x64_S_d0_1 h_S_) main_v18 main_c_6
  let main_v20 : IVec S_ 1 := andi main_v15 main_v19
  let main_v21 : FVec F S64x64 .f32 := Host.absf main_arg5
  let main_cst_7 : FVec F S_ .f32 := constant S_ .f32 0x7F800000#32
  let main_v22 : FVec F S64x64 .f32 := broadcastInDim S64x64 ![] bcast_S_S64x64 main_cst_7
  let main_v23 : IVec S64x64 1 := cmpf .olt main_v21 main_v22
  let main_c_8 : IVec S_ 1 := constantI S_ 1 1#1
  let main_v24 : IVec S_ 1 := (fun x v => Host.reduce IntOp.andi x v reducesTo_S64x64_S_d0_1 h_S_) main_v23 main_c_8
  let main_v25 : IVec S_ 1 := andi main_v20 main_v24
  let main_v26 : FVec F S64 .f32 := Host.absf main_arg6
  let main_cst_9 : FVec F S_ .f32 := constant S_ .f32 0x7F800000#32
  let main_v27 : FVec F S64 .f32 := broadcastInDim S64 ![] bcast_S_S64 main_cst_9
  let main_v28 : IVec S64 1 := cmpf .olt main_v26 main_v27
  let main_c_10 : IVec S_ 1 := constantI S_ 1 1#1
  let main_v29 : IVec S_ 1 := (fun x v => Host.reduce IntOp.andi x v reducesTo_S64_S_d0 h_S_) main_v28 main_c_10
  let main_v30 : IVec S_ 1 := andi main_v25 main_v29
  let main_v31 : FVec F S64 .f32 := Host.absf main_arg7
  let main_cst_11 : FVec F S_ .f32 := constant S_ .f32 0x7F800000#32
  let main_v32 : FVec F S64 .f32 := broadcastInDim S64 ![] bcast_S_S64 main_cst_11
  let main_v33 : IVec S64 1 := cmpf .olt main_v31 main_v32
  fn_part2 (F := F) main_arg8 main_arg9 main_arg10 main_arg11 main_v30 main_v33

def fn {F : FTy → Type} [FloatOps F] (main_arg0 : FVec F S4000x50x64 .f32) (main_arg1 : IVec S2x200 32) (main_arg2 : FVec F S4000x200x16 .f32) (main_arg3 : FVec F S64x64 .f32) (main_arg4 : FVec F S64x64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64 .f32) (main_arg12 : FVec F S16 .f32) (main_arg13 : FVec F S16 .f32) (main_arg14 : FVec F S16 .f32) (main_arg15 : FVec F S192x16 .f32) : IVec S_ 1 :=
  let main_c : IVec S_ 32 := constantI S_ 32 0#32
  let main_v0 : IVec S2x200 32 := broadcastInDim S2x200 ![] bcast_S_S2x200 main_c
  let main_v1 : IVec S2x200 1 := cmpi .sge main_arg1 main_v0
  let main_c_0 : IVec S_ 32 := constantI S_ 32 50#32
  let main_v2 : IVec S2x200 32 := broadcastInDim S2x200 ![] bcast_S_S2x200 main_c_0
  let main_v3 : IVec S2x200 1 := cmpi .slt main_arg1 main_v2
  let main_v4 : IVec S2x200 1 := andi main_v1 main_v3
  let main_c_1 : IVec S_ 1 := constantI S_ 1 1#1
  let main_v5 : IVec S_ 1 := (fun x v => Host.reduce IntOp.andi x v reducesTo_S2x200_S_d0_1 h_S_) main_v4 main_c_1
  let main_v6 : FVec F S4000x50x64 .f32 := Host.absf main_arg0
  let main_cst : FVec F S_ .f32 := constant S_ .f32 0x7F800000#32
  let main_v7 : FVec F S4000x50x64 .f32 := broadcastInDim S4000x50x64 ![] bcast_S_S4000x50x64 main_cst
  let main_v8 : IVec S4000x50x64 1 := cmpf .olt main_v6 main_v7
  let main_c_2 : IVec S_ 1 := constantI S_ 1 1#1
  let main_v9 : IVec S_ 1 := (fun x v => Host.reduce IntOp.andi x v reducesTo_S4000x50x64_S_d0_1_2 h_S_) main_v8 main_c_2
  let main_v10 : IVec S_ 1 := andi main_v5 main_v9
  let main_v11 : FVec F S64x64 .f32 := Host.absf main_arg3
  let main_cst_3 : FVec F S_ .f32 := constant S_ .f32 0x7F800000#32
  let main_v12 : FVec F S64x64 .f32 := broadcastInDim S64x64 ![] bcast_S_S64x64 main_cst_3
  let main_v13 : IVec S64x64 1 := cmpf .olt main_v11 main_v12
  let main_c_4 : IVec S_ 1 := constantI S_ 1 1#1
  let main_v14 : IVec S_ 1 := (fun x v => Host.reduce IntOp.andi x v reducesTo_S64x64_S_d0_1 h_S_) main_v13 main_c_4
  let main_v15 : IVec S_ 1 := andi main_v10 main_v14
  let main_v16 : FVec F S64x64 .f32 := Host.absf main_arg4
  fn_part1 (F := F) main_arg5 main_arg6 main_arg7 main_arg8 main_arg9 main_arg10 main_arg11 main_v15 main_v16
-- ==== Kernel.lean ====
abbrev S4000x50x64 : Shape := ⟨3, ![4000, 50, 64]⟩
abbrev S2x200 : Shape := ⟨2, ![2, 200]⟩
abbrev S4000x200x16 : Shape := ⟨3, ![4000, 200, 16]⟩
abbrev S64x64 : Shape := ⟨2, ![64, 64]⟩
abbrev S64 : Shape := ⟨1, ![64]⟩
abbrev S16 : Shape := ⟨1, ![16]⟩
abbrev S192x16 : Shape := ⟨2, ![192, 16]⟩
abbrev S4000x3200 : Shape := ⟨2, ![4000, 3200]⟩
abbrev S1x64 : Shape := ⟨2, ![1, 64]⟩
abbrev S1x16 : Shape := ⟨2, ![1, 16]⟩
abbrev S200x50x64 : Shape := ⟨3, ![200, 50, 64]⟩
abbrev S200x3200 : Shape := ⟨2, ![200, 3200]⟩
abbrev S3x64 : Shape := ⟨2, ![3, 64]⟩
abbrev S1x200 : Shape := ⟨2, ![1, 200]⟩
abbrev S50x200 : Shape := ⟨2, ![50, 200]⟩
abbrev S200x1 : Shape := ⟨2, ![200, 1]⟩
abbrev S200x2500 : Shape := ⟨2, ![200, 2500]⟩
abbrev S3200x200 : Shape := ⟨2, ![3200, 200]⟩
abbrev S16x1 : Shape := ⟨2, ![16, 1]⟩
abbrev S1x16x1 : Shape := ⟨3, ![1, 16, 1]⟩
abbrev S200x16x1 : Shape := ⟨3, ![200, 16, 1]⟩
abbrev S3200x1 : Shape := ⟨2, ![3200, 1]⟩
abbrev S200x200 : Shape := ⟨2, ![200, 200]⟩
abbrev S2x64 : Shape := ⟨2, ![2, 64]⟩
abbrev S64x2 : Shape := ⟨2, ![64, 2]⟩
abbrev S64x66 : Shape := ⟨2, ![64, 66]⟩
abbrev S200x50x66 : Shape := ⟨3, ![200, 50, 66]⟩
abbrev S200x50x1 : Shape := ⟨3, ![200, 50, 1]⟩
abbrev S200x50 : Shape := ⟨2, ![200, 50]⟩
abbrev S200 : Shape := ⟨1, ![200]⟩
abbrev S200x50x50 : Shape := ⟨3, ![200, 50, 50]⟩
abbrev S64x16 : Shape := ⟨2, ![64, 16]⟩

abbrev nBuf : Space → Nat
  | .hbm => 27
  | .vmem => 20
  | .smem => 0
  | _ => 0

abbrev bufTy : (tb : Table) → Fin (tcTables nBuf tb) → BufTy
  | .hbm, ⟨0, _⟩ => ⟨S4000x50x64, .f32⟩
  | .hbm, ⟨1, _⟩ => ⟨S2x200, .i32⟩
  | .hbm, ⟨2, _⟩ => ⟨S4000x200x16, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S16, .f32⟩
  | .hbm, ⟨13, _⟩ => ⟨S16, .f32⟩
  | .hbm, ⟨14, _⟩ => ⟨S16, .f32⟩
  | .hbm, ⟨15, _⟩ => ⟨S192x16, .f32⟩
  | .hbm, ⟨16, _⟩ => ⟨S4000x3200, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S1x16, .f32⟩
  | .hbm, ⟨24, _⟩ => ⟨S1x16, .f32⟩
  | .hbm, ⟨25, _⟩ => ⟨S1x16, .f32⟩
  | .hbm, ⟨26, _⟩ => ⟨S1x16, .f32⟩
  | .local _ .vmem, ⟨0, _⟩ => ⟨S200x50x64, .f32⟩
  | .local _ .vmem, ⟨1, _⟩ => ⟨S200x50x64, .f32⟩
  | .local _ .vmem, ⟨2, _⟩ => ⟨S200x3200, .f32⟩
  | .local _ .vmem, ⟨3, _⟩ => ⟨S200x3200, .f32⟩
  | .local _ .vmem, ⟨4, _⟩ => ⟨S2x200, .i32⟩
  | .local _ .vmem, ⟨5, _⟩ => ⟨S64x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S192x16, .f32⟩
  | .local _ .vmem, ⟨18, _⟩ => ⟨S1x16, .f32⟩
  | .local _ .vmem, ⟨19, _⟩ => ⟨S3x64, .f32⟩
  | _, _ => ⟨S4000x50x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v239 : BitVec 1 := Scalar.cmpi .eq arg0 c19_i32
  let v240 : BitVec 32 := Scalar.extui v239
  let c0_i32_99 : BitVec 32 := 0#32
  let v241 : BitVec 1 := Scalar.cmpi .ne v240 c0_i32_99
  v241

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S200x50x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x200 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S192x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "mean" => some ((1 / 200000 : ℝ) : EReal)
  | _ => none
-- ==== ReferenceIdeal.lean ====
abbrev S4000x50x64 : Shape := ⟨3, ![4000, 50, 64]⟩
abbrev S2x200 : Shape := ⟨2, ![2, 200]⟩
abbrev S4000x200x16 : Shape := ⟨3, ![4000, 200, 16]⟩
abbrev S64x64 : Shape := ⟨2, ![64, 64]⟩
abbrev S64 : Shape := ⟨1, ![64]⟩
abbrev S16 : Shape := ⟨1, ![16]⟩
abbrev S192x16 : Shape := ⟨2, ![192, 16]⟩
abbrev S1x200 : Shape := ⟨2, ![1, 200]⟩
abbrev S200 : Shape := ⟨1, ![200]⟩
abbrev S_ : Shape := ⟨0, ![]⟩
abbrev S200x1 : Shape := ⟨2, ![200, 1]⟩
abbrev S4000x200x64 : Shape := ⟨3, ![4000, 200, 64]⟩
abbrev S1x64 : Shape := ⟨2, ![1, 64]⟩
abbrev S1x1x64 : Shape := ⟨3, ![1, 1, 64]⟩
abbrev S4000x200 : Shape := ⟨2, ![4000, 200]⟩
abbrev S4000 : Shape := ⟨1, ![4000]⟩
abbrev S4000x1 : Shape := ⟨2, ![4000, 1]⟩
abbrev S50 : Shape := ⟨1, ![50]⟩
abbrev S4000x50 : Shape := ⟨2, ![4000, 50]⟩
abbrev S4000x200x1 : Shape := ⟨3, ![4000, 200, 1]⟩
abbrev S50x64 : Shape := ⟨2, ![50, 64]⟩
abbrev S4000x50x192 : Shape := ⟨3, ![4000, 50, 192]⟩
abbrev S4000x192 : Shape := ⟨2, ![4000, 192]⟩
abbrev S192 : Shape := ⟨1, ![192]⟩
abbrev S1x192 : Shape := ⟨2, ![1, 192]⟩
abbrev S1x16 : Shape := ⟨2, ![1, 16]⟩

abbrev nBuf : Space → Nat
  | .hbm => 333
  | .vmem => 0
  | .smem => 0
  | _ => 0

abbrev hbmTy0_0 (i : Nat) : BufTy := match i % 128 with
  | 0 => ⟨S4000x50x64, .f32⟩
  | 1 => ⟨S2x200, .i32⟩
  | 2 => ⟨S4000x200x16, .f32⟩
  | 3 => ⟨S64x64, .f32⟩
  | 4 => ⟨S64x64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64, .f32⟩
  | 12 => ⟨S16, .f32⟩
  | 13 => ⟨S16, .f32⟩
  | 14 => ⟨S16, .f32⟩
  | 15 => ⟨S192x16, .f32⟩
  | 16 => ⟨S1x200, .i32⟩
  | 17 => ⟨S200, .i32⟩
  | 18 => ⟨S1x200, .i32⟩
  | 19 => ⟨S200, .i32⟩
  | 20 => ⟨S4000x50x64, .f32⟩
  | 21 => ⟨S_, .i32⟩
  | 22 => ⟨S200, .i32⟩
  | 23 => ⟨S200, .i1⟩
  | 24 => ⟨S_, .i32⟩
  | 25 => ⟨S200, .i32⟩
  | 26 => ⟨S200, .i32⟩
  | 27 => ⟨S200, .i32⟩
  | 28 => ⟨S200x1, .i32⟩
  | 29 => ⟨S4000x200x64, .f32⟩
  | 30 => ⟨S1x64, .f32⟩
  | 31 => ⟨S1x1x64, .f32⟩
  | 32 => ⟨S4000x200x64, .f32⟩
  | 33 => ⟨S4000x200x64, .f32⟩
  | 34 => ⟨S_, .f32⟩
  | 35 => ⟨S4000x200, .f32⟩
  | 36 => ⟨S_, .i32⟩
  | 37 => ⟨S200, .i32⟩
  | 38 => ⟨S200, .i1⟩
  | 39 => ⟨S_, .i32⟩
  | 40 => ⟨S200, .i32⟩
  | 41 => ⟨S200, .i32⟩
  | 42 => ⟨S200, .i32⟩
  | 43 => ⟨S200x1, .i32⟩
  | 44 => ⟨S4000x200x64, .f32⟩
  | 45 => ⟨S1x64, .f32⟩
  | 46 => ⟨S1x1x64, .f32⟩
  | 47 => ⟨S4000x200x64, .f32⟩
  | 48 => ⟨S4000x200x64, .f32⟩
  | 49 => ⟨S_, .f32⟩
  | 50 => ⟨S4000x200, .f32⟩
  | 51 => ⟨S4000x200, .f32⟩
  | 52 => ⟨S4000x200, .f32⟩
  | 53 => ⟨S4000x200, .f32⟩
  | 54 => ⟨S_, .f32⟩
  | 55 => ⟨S_, .f32⟩
  | 56 => ⟨S4000x200, .f32⟩
  | 57 => ⟨S4000x200, .i1⟩
  | 58 => ⟨S_, .f32⟩
  | 59 => ⟨S4000x200, .f32⟩
  | 60 => ⟨S4000x200, .f32⟩
  | 61 => ⟨S4000x200, .f32⟩
  | 62 => ⟨S_, .f32⟩
  | 63 => ⟨S4000, .f32⟩
  | 64 => ⟨S4000x1, .f32⟩
  | 65 => ⟨S4000x200, .f32⟩
  | 66 => ⟨S4000x200, .f32⟩
  | 67 => ⟨S4000x200, .f32⟩
  | 68 => ⟨S_, .f32⟩
  | 69 => ⟨S50, .f32⟩
  | 70 => ⟨S200x1, .i32⟩
  | 71 => ⟨S4000x50, .f32⟩
  | 72 => ⟨S4000x50, .f32⟩
  | 73 => ⟨S_, .i32⟩
  | 74 => ⟨S200, .i32⟩
  | 75 => ⟨S200, .i1⟩
  | 76 => ⟨S_, .i32⟩
  | 77 => ⟨S200, .i32⟩
  | 78 => ⟨S200, .i32⟩
  | 79 => ⟨S200, .i32⟩
  | 80 => ⟨S200x1, .i32⟩
  | 81 => ⟨S4000x200, .f32⟩
  | 82 => ⟨S_, .f32⟩
  | 83 => ⟨S4000x200, .f32⟩
  | 84 => ⟨S4000x200, .f32⟩
  | 85 => ⟨S4000x200, .f32⟩
  | 86 => ⟨S4000x200x1, .f32⟩
  | 87 => ⟨S_, .i32⟩
  | 88 => ⟨S200, .i32⟩
  | 89 => ⟨S200, .i1⟩
  | 90 => ⟨S_, .i32⟩
  | 91 => ⟨S200, .i32⟩
  | 92 => ⟨S200, .i32⟩
  | 93 => ⟨S200, .i32⟩
  | 94 => ⟨S200x1, .i32⟩
  | 95 => ⟨S4000x200x64, .f32⟩
  | 96 => ⟨S4000x200x64, .f32⟩
  | 97 => ⟨S4000x200x64, .f32⟩
  | 98 => ⟨S_, .f32⟩
  | 99 => ⟨S50x64, .f32⟩
  | 100 => ⟨S200x1, .i32⟩
  | 101 => ⟨S4000x50x64, .f32⟩
  | 102 => ⟨S4000x50x64, .f32⟩
  | 103 => ⟨S_, .f32⟩
  | 104 => ⟨S4000x50x64, .f32⟩
  | 105 => ⟨S4000x50x64, .i1⟩
  | 106 => ⟨S_, .f32⟩
  | 107 => ⟨S4000x50x64, .f32⟩
  | 108 => ⟨S4000x50x64, .i1⟩
  | 109 => ⟨S_, .f32⟩
  | 110 => ⟨S_, .f32⟩
  | 111 => ⟨S50x64, .f32⟩
  | 112 => ⟨S4000x50x64, .f32⟩
  | 113 => ⟨S4000x50x64, .f32⟩
  | 114 => ⟨S4000x50x64, .f32⟩
  | 115 => ⟨S_, .f32⟩
  | 116 => ⟨S4000x50x64, .f32⟩
  | 117 => ⟨S4000x50x64, .f32⟩
  | 118 => ⟨S4000x50x64, .f32⟩
  | 119 => ⟨S4000x50x64, .f32⟩
  | 120 => ⟨S4000x50x64, .f32⟩
  | 121 => ⟨S_, .i32⟩
  | 122 => ⟨S200, .i32⟩
  | 123 => ⟨S200, .i1⟩
  | 124 => ⟨S_, .i32⟩
  | 125 => ⟨S200, .i32⟩
  | 126 => ⟨S200, .i32⟩
  | 127 => ⟨S200, .i32⟩
  | _ => ⟨S4000x50x64, .f32⟩

abbrev hbmTy0_1 (i : Nat) : BufTy := match i % 128 with
  | 0 => ⟨S200x1, .i32⟩
  | 1 => ⟨S4000x200x64, .f32⟩
  | 2 => ⟨S1x64, .f32⟩
  | 3 => ⟨S1x1x64, .f32⟩
  | 4 => ⟨S4000x200x64, .f32⟩
  | 5 => ⟨S4000x200x64, .f32⟩
  | 6 => ⟨S_, .f32⟩
  | 7 => ⟨S4000x200, .f32⟩
  | 8 => ⟨S_, .i32⟩
  | 9 => ⟨S200, .i32⟩
  | 10 => ⟨S200, .i1⟩
  | 11 => ⟨S_, .i32⟩
  | 12 => ⟨S200, .i32⟩
  | 13 => ⟨S200, .i32⟩
  | 14 => ⟨S200, .i32⟩
  | 15 => ⟨S200x1, .i32⟩
  | 16 => ⟨S4000x200x64, .f32⟩
  | 17 => ⟨S1x64, .f32⟩
  | 18 => ⟨S1x1x64, .f32⟩
  | 19 => ⟨S4000x200x64, .f32⟩
  | 20 => ⟨S4000x200x64, .f32⟩
  | 21 => ⟨S_, .f32⟩
  | 22 => ⟨S4000x200, .f32⟩
  | 23 => ⟨S4000x200, .f32⟩
  | 24 => ⟨S4000x200, .f32⟩
  | 25 => ⟨S4000x200, .f32⟩
  | 26 => ⟨S_, .f32⟩
  | 27 => ⟨S_, .f32⟩
  | 28 => ⟨S4000x200, .f32⟩
  | 29 => ⟨S4000x200, .i1⟩
  | 30 => ⟨S_, .f32⟩
  | 31 => ⟨S4000x200, .f32⟩
  | 32 => ⟨S4000x200, .f32⟩
  | 33 => ⟨S4000x200, .f32⟩
  | 34 => ⟨S_, .f32⟩
  | 35 => ⟨S4000, .f32⟩
  | 36 => ⟨S4000x1, .f32⟩
  | 37 => ⟨S4000x200, .f32⟩
  | 38 => ⟨S4000x200, .f32⟩
  | 39 => ⟨S4000x200, .f32⟩
  | 40 => ⟨S_, .f32⟩
  | 41 => ⟨S50, .f32⟩
  | 42 => ⟨S200x1, .i32⟩
  | 43 => ⟨S4000x50, .f32⟩
  | 44 => ⟨S4000x50, .f32⟩
  | 45 => ⟨S_, .i32⟩
  | 46 => ⟨S200, .i32⟩
  | 47 => ⟨S200, .i1⟩
  | 48 => ⟨S_, .i32⟩
  | 49 => ⟨S200, .i32⟩
  | 50 => ⟨S200, .i32⟩
  | 51 => ⟨S200, .i32⟩
  | 52 => ⟨S200x1, .i32⟩
  | 53 => ⟨S4000x200, .f32⟩
  | 54 => ⟨S_, .f32⟩
  | 55 => ⟨S4000x200, .f32⟩
  | 56 => ⟨S4000x200, .f32⟩
  | 57 => ⟨S4000x200, .f32⟩
  | 58 => ⟨S4000x200x1, .f32⟩
  | 59 => ⟨S_, .i32⟩
  | 60 => ⟨S200, .i32⟩
  | 61 => ⟨S200, .i1⟩
  | 62 => ⟨S_, .i32⟩
  | 63 => ⟨S200, .i32⟩
  | 64 => ⟨S200, .i32⟩
  | 65 => ⟨S200, .i32⟩
  | 66 => ⟨S200x1, .i32⟩
  | 67 => ⟨S4000x200x64, .f32⟩
  | 68 => ⟨S4000x200x64, .f32⟩
  | 69 => ⟨S4000x200x64, .f32⟩
  | 70 => ⟨S_, .f32⟩
  | 71 => ⟨S50x64, .f32⟩
  | 72 => ⟨S200x1, .i32⟩
  | 73 => ⟨S4000x50x64, .f32⟩
  | 74 => ⟨S4000x50x64, .f32⟩
  | 75 => ⟨S_, .f32⟩
  | 76 => ⟨S4000x50x64, .f32⟩
  | 77 => ⟨S4000x50x64, .i1⟩
  | 78 => ⟨S_, .f32⟩
  | 79 => ⟨S4000x50x64, .f32⟩
  | 80 => ⟨S4000x50x64, .i1⟩
  | 81 => ⟨S_, .f32⟩
  | 82 => ⟨S_, .f32⟩
  | 83 => ⟨S50x64, .f32⟩
  | 84 => ⟨S4000x50x64, .f32⟩
  | 85 => ⟨S4000x50x64, .f32⟩
  | 86 => ⟨S4000x50x64, .f32⟩
  | 87 => ⟨S_, .f32⟩
  | 88 => ⟨S4000x50x64, .f32⟩
  | 89 => ⟨S4000x50x64, .f32⟩
  | 90 => ⟨S4000x50x64, .f32⟩
  | 91 => ⟨S4000x50x64, .f32⟩
  | 92 => ⟨S4000x50x64, .f32⟩
  | 93 => ⟨S_, .i32⟩
  | 94 => ⟨S200, .i32⟩
  | 95 => ⟨S200, .i1⟩
  | 96 => ⟨S_, .i32⟩
  | 97 => ⟨S200, .i32⟩
  | 98 => ⟨S200, .i32⟩
  | 99 => ⟨S200, .i32⟩
  | 100 => ⟨S200x1, .i32⟩
  | 101 => ⟨S4000x200x64, .f32⟩
  | 102 => ⟨S1x64, .f32⟩
  | 103 => ⟨S1x1x64, .f32⟩
  | 104 => ⟨S4000x200x64, .f32⟩
  | 105 => ⟨S4000x200x64, .f32⟩
  | 106 => ⟨S_, .f32⟩
  | 107 => ⟨S4000x200, .f32⟩
  | 108 => ⟨S_, .i32⟩
  | 109 => ⟨S200, .i32⟩
  | 110 => ⟨S200, .i1⟩
  | 111 => ⟨S_, .i32⟩
  | 112 => ⟨S200, .i32⟩
  | 113 => ⟨S200, .i32⟩
  | 114 => ⟨S200, .i32⟩
  | 115 => ⟨S200x1, .i32⟩
  | 116 => ⟨S4000x200x64, .f32⟩
  | 117 => ⟨S1x64, .f32⟩
  | 118 => ⟨S1x1x64, .f32⟩
  | 119 => ⟨S4000x200x64, .f32⟩
  | 120 => ⟨S4000x200x64, .f32⟩
  | 121 => ⟨S_, .f32⟩
  | 122 => ⟨S4000x200, .f32⟩
  | 123 => ⟨S4000x200, .f32⟩
  | 124 => ⟨S4000x200, .f32⟩
  | 125 => ⟨S4000x200, .f32⟩
  | 126 => ⟨S_, .f32⟩
  | 127 => ⟨S_, .f32⟩
  | _ => ⟨S4000x50x64, .f32⟩

abbrev hbmTy0_2 (i : Nat) : BufTy := match i % 128 with
  | 0 => ⟨S4000x200, .f32⟩
  | 1 => ⟨S4000x200, .i1⟩
  | 2 => ⟨S_, .f32⟩
  | 3 => ⟨S4000x200, .f32⟩
  | 4 => ⟨S4000x200, .f32⟩
  | 5 => ⟨S4000x200, .f32⟩
  | 6 => ⟨S_, .f32⟩
  | 7 => ⟨S4000, .f32⟩
  | 8 => ⟨S4000x1, .f32⟩
  | 9 => ⟨S4000x200, .f32⟩
  | 10 => ⟨S4000x200, .f32⟩
  | 11 => ⟨S4000x200, .f32⟩
  | 12 => ⟨S_, .f32⟩
  | 13 => ⟨S50, .f32⟩
  | 14 => ⟨S200x1, .i32⟩
  | 15 => ⟨S4000x50, .f32⟩
  | 16 => ⟨S4000x50, .f32⟩
  | 17 => ⟨S_, .i32⟩
  | 18 => ⟨S200, .i32⟩
  | 19 => ⟨S200, .i1⟩
  | 20 => ⟨S_, .i32⟩
  | 21 => ⟨S200, .i32⟩
  | 22 => ⟨S200, .i32⟩
  | 23 => ⟨S200, .i32⟩
  | 24 => ⟨S200x1, .i32⟩
  | 25 => ⟨S4000x200, .f32⟩
  | 26 => ⟨S_, .f32⟩
  | 27 => ⟨S4000x200, .f32⟩
  | 28 => ⟨S4000x200, .f32⟩
  | 29 => ⟨S4000x200, .f32⟩
  | 30 => ⟨S4000x200x1, .f32⟩
  | 31 => ⟨S_, .i32⟩
  | 32 => ⟨S200, .i32⟩
  | 33 => ⟨S200, .i1⟩
  | 34 => ⟨S_, .i32⟩
  | 35 => ⟨S200, .i32⟩
  | 36 => ⟨S200, .i32⟩
  | 37 => ⟨S200, .i32⟩
  | 38 => ⟨S200x1, .i32⟩
  | 39 => ⟨S4000x200x64, .f32⟩
  | 40 => ⟨S4000x200x64, .f32⟩
  | 41 => ⟨S4000x200x64, .f32⟩
  | 42 => ⟨S_, .f32⟩
  | 43 => ⟨S50x64, .f32⟩
  | 44 => ⟨S200x1, .i32⟩
  | 45 => ⟨S4000x50x64, .f32⟩
  | 46 => ⟨S4000x50x64, .f32⟩
  | 47 => ⟨S_, .f32⟩
  | 48 => ⟨S4000x50x64, .f32⟩
  | 49 => ⟨S4000x50x64, .i1⟩
  | 50 => ⟨S_, .f32⟩
  | 51 => ⟨S4000x50x64, .f32⟩
  | 52 => ⟨S4000x50x64, .i1⟩
  | 53 => ⟨S_, .f32⟩
  | 54 => ⟨S_, .f32⟩
  | 55 => ⟨S50x64, .f32⟩
  | 56 => ⟨S4000x50x64, .f32⟩
  | 57 => ⟨S4000x50x64, .f32⟩
  | 58 => ⟨S4000x50x64, .f32⟩
  | 59 => ⟨S_, .f32⟩
  | 60 => ⟨S4000x50x64, .f32⟩
  | 61 => ⟨S4000x50x64, .f32⟩
  | 62 => ⟨S4000x50x64, .f32⟩
  | 63 => ⟨S4000x50x64, .f32⟩
  | 64 => ⟨S4000x50x192, .f32⟩
  | 65 => ⟨S_, .f32⟩
  | 66 => ⟨S4000x192, .f32⟩
  | 67 => ⟨S_, .f32⟩
  | 68 => ⟨S4000x192, .f32⟩
  | 69 => ⟨S4000x192, .f32⟩
  | 70 => ⟨S_, .f32⟩
  | 71 => ⟨S192, .f32⟩
  | 72 => ⟨S1x192, .f32⟩
  | 73 => ⟨S_, .f32⟩
  | 74 => ⟨S1x192, .f32⟩
  | 75 => ⟨S1x192, .f32⟩
  | 76 => ⟨S1x16, .f32⟩
  | _ => ⟨S4000x50x64, .f32⟩

abbrev hbmTy (i : Nat) : BufTy := match i / 128 with
  | 0 => hbmTy0_0 i
  | 1 => hbmTy0_1 i
  | 2 => hbmTy0_2 i
  | _ => ⟨S4000x50x64, .f32⟩

abbrev bufTy : (tb : Table) → Fin (tcTables nBuf tb) → BufTy
  | .hbm, ⟨i, _⟩ => hbmTy i
  | _, _ => ⟨S4000x50x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_c_1 : Ref sig .tc := ⟨.hbm, 36, rfl⟩
abbrev main_v17 : Ref sig .tc := ⟨.hbm, 37, rfl⟩
abbrev main_v18 : Ref sig .tc := ⟨.hbm, 38, rfl⟩
abbrev main_c_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_call0_cst : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v32 : Ref sig .tc := ⟨.hbm, 61, rfl⟩
abbrev main_cst_5 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_cst_6 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_c_7 : Ref sig .tc := ⟨.hbm, 73, rfl⟩
abbrev main_v42 : Ref sig .tc := ⟨.hbm, 74, rfl⟩
abbrev main_v43 : Ref sig .tc := ⟨.hbm, 75, rfl⟩
abbrev main_c_8 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_9 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_c_10 : Ref sig .tc := ⟨.hbm, 87, rfl⟩
abbrev main_v53 : Ref sig .tc := ⟨.hbm, 88, rfl⟩
abbrev main_v54 : Ref sig .tc := ⟨.hbm, 89, rfl⟩
abbrev main_c_11 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_12 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call1_cst : Ref sig .tc := ⟨.hbm, 103, rfl⟩
abbrev main_call1_v0 : Ref sig .tc := ⟨.hbm, 104, rfl⟩
abbrev main_call1_v1 : Ref sig .tc := ⟨.hbm, 105, rfl⟩
abbrev main_call1_cst_0 : Ref sig .tc := ⟨.hbm, 106, rfl⟩
abbrev main_call1_v2 : Ref sig .tc := ⟨.hbm, 107, rfl⟩
abbrev main_call1_v3 : Ref sig .tc := ⟨.hbm, 108, rfl⟩
abbrev main_call1_cst_1 : Ref sig .tc := ⟨.hbm, 109, rfl⟩
abbrev main_call1_call0_v0 : Ref sig .tc := ⟨.hbm, 110, rfl⟩
abbrev main_call1_call0_v1 : Ref sig .tc := ⟨.hbm, 111, rfl⟩
abbrev main_call1_call0_v2 : Ref sig .tc := ⟨.hbm, 112, rfl⟩
abbrev main_call1_v4 : Ref sig .tc := ⟨.hbm, 113, rfl⟩
abbrev main_call1_v5 : Ref sig .tc := ⟨.hbm, 114, rfl⟩
abbrev main_call1_cst_2 : Ref sig .tc := ⟨.hbm, 115, rfl⟩
abbrev main_call1_v6 : Ref sig .tc := ⟨.hbm, 116, rfl⟩
abbrev main_call1_v7 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_c_13 : Ref sig .tc := ⟨.hbm, 121, rfl⟩
abbrev main_v69 : Ref sig .tc := ⟨.hbm, 122, rfl⟩
abbrev main_v70 : Ref sig .tc := ⟨.hbm, 123, rfl⟩
abbrev main_c_14 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_15 : Ref sig .tc := ⟨.hbm, 134, rfl⟩
abbrev main_v80 : Ref sig .tc := ⟨.hbm, 135, rfl⟩
abbrev main_c_16 : Ref sig .tc := ⟨.hbm, 136, rfl⟩
abbrev main_v81 : Ref sig .tc := ⟨.hbm, 137, rfl⟩
abbrev main_v82 : Ref sig .tc := ⟨.hbm, 138, rfl⟩
abbrev main_c_17 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_18 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_cst_19 : Ref sig .tc := ⟨.hbm, 154, rfl⟩
abbrev main_call2_cst : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_call2_v3 : Ref sig .tc := ⟨.hbm, 159, rfl⟩
abbrev main_call2_v4 : Ref sig .tc := ⟨.hbm, 160, rfl⟩
abbrev main_v96 : Ref sig .tc := ⟨.hbm, 161, rfl⟩
abbrev main_cst_20 : Ref sig .tc := ⟨.hbm, 162, rfl⟩
abbrev main_v97 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_v101 : Ref sig .tc := ⟨.hbm, 167, rfl⟩
abbrev main_cst_21 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_c_22 : Ref sig .tc := ⟨.hbm, 173, rfl⟩
abbrev main_v106 : Ref sig .tc := ⟨.hbm, 174, rfl⟩
abbrev main_v107 : Ref sig .tc := ⟨.hbm, 175, rfl⟩
abbrev main_c_23 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_cst_24 : Ref sig .tc := ⟨.hbm, 182, rfl⟩
abbrev main_v113 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_c_25 : Ref sig .tc := ⟨.hbm, 187, rfl⟩
abbrev main_v117 : Ref sig .tc := ⟨.hbm, 188, rfl⟩
abbrev main_v118 : Ref sig .tc := ⟨.hbm, 189, rfl⟩
abbrev main_c_26 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_cst_27 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_call3_cst : Ref sig .tc := ⟨.hbm, 203, rfl⟩
abbrev main_call3_v0 : Ref sig .tc := ⟨.hbm, 204, rfl⟩
abbrev main_call3_v1 : Ref sig .tc := ⟨.hbm, 205, rfl⟩
abbrev main_call3_cst_0 : Ref sig .tc := ⟨.hbm, 206, rfl⟩
abbrev main_call3_v2 : Ref sig .tc := ⟨.hbm, 207, rfl⟩
abbrev main_call3_v3 : Ref sig .tc := ⟨.hbm, 208, rfl⟩
abbrev main_call3_cst_1 : Ref sig .tc := ⟨.hbm, 209, rfl⟩
abbrev main_call3_call0_v0 : Ref sig .tc := ⟨.hbm, 210, rfl⟩
abbrev main_call3_call0_v1 : Ref sig .tc := ⟨.hbm, 211, rfl⟩
abbrev main_call3_call0_v2 : Ref sig .tc := ⟨.hbm, 212, rfl⟩
abbrev main_call3_v4 : Ref sig .tc := ⟨.hbm, 213, rfl⟩
abbrev main_call3_v5 : Ref sig .tc := ⟨.hbm, 214, rfl⟩
abbrev main_call3_cst_2 : Ref sig .tc := ⟨.hbm, 215, rfl⟩
abbrev main_call3_v6 : Ref sig .tc := ⟨.hbm, 216, rfl⟩
abbrev main_call3_v7 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_c_28 : Ref sig .tc := ⟨.hbm, 221, rfl⟩
abbrev main_v133 : Ref sig .tc := ⟨.hbm, 222, rfl⟩
abbrev main_v134 : Ref sig .tc := ⟨.hbm, 223, rfl⟩
abbrev main_c_29 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_cst_30 : Ref sig .tc := ⟨.hbm, 234, rfl⟩
abbrev main_v144 : Ref sig .tc := ⟨.hbm, 235, rfl⟩
abbrev main_c_31 : Ref sig .tc := ⟨.hbm, 236, rfl⟩
abbrev main_v145 : Ref sig .tc := ⟨.hbm, 237, rfl⟩
abbrev main_v146 : Ref sig .tc := ⟨.hbm, 238, rfl⟩
abbrev main_c_32 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_cst_33 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_cst_34 : Ref sig .tc := ⟨.hbm, 254, rfl⟩
abbrev main_call4_cst : Ref sig .tc := ⟨.hbm, 255, rfl⟩
abbrev main_call4_v0 : Ref sig .tc := ⟨.hbm, 256, rfl⟩
abbrev main_call4_v1 : Ref sig .tc := ⟨.hbm, 257, rfl⟩
abbrev main_call4_v2 : Ref sig .tc := ⟨.hbm, 258, rfl⟩
abbrev main_call4_v3 : Ref sig .tc := ⟨.hbm, 259, rfl⟩
abbrev main_call4_v4 : Ref sig .tc := ⟨.hbm, 260, rfl⟩
abbrev main_v160 : Ref sig .tc := ⟨.hbm, 261, rfl⟩
abbrev main_cst_35 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_36 : Ref sig .tc := ⟨.hbm, 268, rfl⟩
abbrev main_v166 : Ref sig .tc := ⟨.hbm, 269, rfl⟩
abbrev main_v167 : Ref sig .tc := ⟨.hbm, 270, rfl⟩
abbrev main_v168 : Ref sig .tc := ⟨.hbm, 271, rfl⟩
abbrev main_v169 : Ref sig .tc := ⟨.hbm, 272, rfl⟩
abbrev main_c_37 : Ref sig .tc := ⟨.hbm, 273, rfl⟩
abbrev main_v170 : Ref sig .tc := ⟨.hbm, 274, rfl⟩
abbrev main_v171 : Ref sig .tc := ⟨.hbm, 275, rfl⟩
abbrev main_c_38 : Ref sig .tc := ⟨.hbm, 276, rfl⟩
abbrev main_v172 : Ref sig .tc := ⟨.hbm, 277, rfl⟩
abbrev main_v173 : Ref sig .tc := ⟨.hbm, 278, rfl⟩
abbrev main_v174 : Ref sig .tc := ⟨.hbm, 279, rfl⟩
abbrev main_v175 : Ref sig .tc := ⟨.hbm, 280, rfl⟩
abbrev main_v176 : Ref sig .tc := ⟨.hbm, 281, rfl⟩
abbrev main_cst_39 : Ref sig .tc := ⟨.hbm, 282, rfl⟩
abbrev main_v177 : Ref sig .tc := ⟨.hbm, 283, rfl⟩
abbrev main_v178 : Ref sig .tc := ⟨.hbm, 284, rfl⟩
abbrev main_v179 : Ref sig .tc := ⟨.hbm, 285, rfl⟩
abbrev main_v180 : Ref sig .tc := ⟨.hbm, 286, rfl⟩
abbrev main_c_40 : Ref sig .tc := ⟨.hbm, 287, rfl⟩
abbrev main_v181 : Ref sig .tc := ⟨.hbm, 288, rfl⟩
abbrev main_v182 : Ref sig .tc := ⟨.hbm, 289, rfl⟩
abbrev main_c_41 : Ref sig .tc := ⟨.hbm, 290, rfl⟩
abbrev main_v183 : Ref sig .tc := ⟨.hbm, 291, rfl⟩
abbrev main_v184 : Ref sig .tc := ⟨.hbm, 292, rfl⟩
abbrev main_v185 : Ref sig .tc := ⟨.hbm, 293, rfl⟩
abbrev main_v186 : Ref sig .tc := ⟨.hbm, 294, rfl⟩
abbrev main_v187 : Ref sig .tc := ⟨.hbm, 295, rfl⟩
abbrev main_v188 : Ref sig .tc := ⟨.hbm, 296, rfl⟩
abbrev main_v189 : Ref sig .tc := ⟨.hbm, 297, rfl⟩
abbrev main_cst_42 : Ref sig .tc := ⟨.hbm, 298, rfl⟩
abbrev main_v190 : Ref sig .tc := ⟨.hbm, 299, rfl⟩
abbrev main_v191 : Ref sig .tc := ⟨.hbm, 300, rfl⟩
abbrev main_v192 : Ref sig .tc := ⟨.hbm, 301, rfl⟩
abbrev main_v193 : Ref sig .tc := ⟨.hbm, 302, rfl⟩
abbrev main_call5_cst : Ref sig .tc := ⟨.hbm, 303, rfl⟩
abbrev main_call5_v0 : Ref sig .tc := ⟨.hbm, 304, rfl⟩
abbrev main_call5_v1 : Ref sig .tc := ⟨.hbm, 305, rfl⟩
abbrev main_call5_cst_0 : Ref sig .tc := ⟨.hbm, 306, rfl⟩
abbrev main_call5_v2 : Ref sig .tc := ⟨.hbm, 307, rfl⟩
abbrev main_call5_v3 : Ref sig .tc := ⟨.hbm, 308, rfl⟩
abbrev main_call5_cst_1 : Ref sig .tc := ⟨.hbm, 309, rfl⟩
abbrev main_call5_call0_v0 : Ref sig .tc := ⟨.hbm, 310, rfl⟩
abbrev main_call5_call0_v1 : Ref sig .tc := ⟨.hbm, 311, rfl⟩
abbrev main_call5_call0_v2 : Ref sig .tc := ⟨.hbm, 312, rfl⟩
abbrev main_call5_v4 : Ref sig .tc := ⟨.hbm, 313, rfl⟩
abbrev main_call5_v5 : Ref sig .tc := ⟨.hbm, 314, rfl⟩
abbrev main_call5_cst_2 : Ref sig .tc := ⟨.hbm, 315, rfl⟩
abbrev main_call5_v6 : Ref sig .tc := ⟨.hbm, 316, rfl⟩
abbrev main_call5_v7 : Ref sig .tc := ⟨.hbm, 317, rfl⟩
abbrev main_v194 : Ref sig .tc := ⟨.hbm, 318, rfl⟩
abbrev main_v195 : Ref sig .tc := ⟨.hbm, 319, rfl⟩
abbrev main_v196 : Ref sig .tc := ⟨.hbm, 320, rfl⟩
abbrev main_cst_43 : Ref sig .tc := ⟨.hbm, 321, rfl⟩
abbrev main_v197 : Ref sig .tc := ⟨.hbm, 322, rfl⟩
abbrev main_cst_44 : Ref sig .tc := ⟨.hbm, 323, rfl⟩
abbrev main_v198 : Ref sig .tc := ⟨.hbm, 324, rfl⟩
abbrev main_v199 : Ref sig .tc := ⟨.hbm, 325, rfl⟩
abbrev main_cst_45 : Ref sig .tc := ⟨.hbm, 326, rfl⟩
abbrev main_v200 : Ref sig .tc := ⟨.hbm, 327, rfl⟩
abbrev main_v201 : Ref sig .tc := ⟨.hbm, 328, rfl⟩
abbrev main_cst_46 : Ref sig .tc := ⟨.hbm, 329, rfl⟩
abbrev main_v202 : Ref sig .tc := ⟨.hbm, 330, rfl⟩
abbrev main_v203 : Ref sig .tc := ⟨.hbm, 331, rfl⟩
abbrev main_v204 : Ref sig .tc := ⟨.hbm, 332, rfl⟩

abbrev nD : Nat := 1
abbrev τ : Topo := Topo.v7x

variable {F : FTy → Type} [FloatOps F]
-- ==== Proof.Spec.lean ====
/-
  One attention layer on one patch, written over the extended reals: the projection, the logits, the leaky ramp, the
  patch's largest logit, the weights, their sums over a node's incoming edges, the attention, the messages, the ramp
  with the residual. Both programs compute it; this module says what it is and that its values are real numbers where
  the inputs are.
-/
module

public import Idealize.ShloMosaic.PureOps.Ideal
public import Idealize.ShloMosaic.PureOps.Ideal.Laws

@[expose] public section

noncomputable section

namespace Cert.Proof

open Idealize.ShloMosaic
open scoped BigOperators

/-! ## Being a real number -/

/-- The extended real is a real number. -/
def IsR (x : EReal) : Prop := ∃ r : ℝ, x = (r : EReal)

theorem IsR.add {x y : EReal} (hx : IsR x) (hy : IsR y) : IsR (x + y) := by
  obtain ⟨r, rfl⟩ := hx; obtain ⟨s, rfl⟩ := hy; exact ⟨r + s, (EReal.coe_add r s).symm⟩
theorem IsR.mul {x y : EReal} (hx : IsR x) (hy : IsR y) : IsR (x * y) := by
  obtain ⟨r, rfl⟩ := hx; obtain ⟨s, rfl⟩ := hy; exact ⟨r * s, (EReal.coe_mul r s).symm⟩
theorem isR_zero : IsR 0 := ⟨0, rfl⟩

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type*} (s : Finset ι) (f : ι → EReal) (h : ∀ i, IsR (f i)) : IsR (∑ i ∈ s, f i) := by
  choose g hg using h
  exact ⟨∑ i ∈ s, g i, by rw [coe_sum]; exact Finset.sum_congr rfl fun i _ => hg i⟩

/-- A number below infinity in absolute value is real. -/
theorem isR_of_abs_lt {x : EReal} (h1 : x ≠ ⊤) (h2 : x ≠ ⊥) : IsR x := ⟨x.toReal, (EReal.coe_toReal h1 h2).symm⟩

/-! ## The layer -/

variable {N E D : Nat}

/-- The leaky ramp's slope, the number the programs' word denotes. -/
def slope : EReal := Ideal.ofBits .f32 0x3E4CCCCD#32
/-- The guard of the attention's denominator, the number the programs' word denotes. -/
def guard : EReal := Ideal.ofBits .f32 0x0DA24260#32

/-- The leaky ramp. -/
def lk (x : EReal) : EReal := if 0 < x then x else slope * x
/-- The nodes' features projected. -/
def lin (h : Fin N → Fin D → EReal) (W : Fin D → Fin D → EReal) (n : Fin N) (j : Fin D) : EReal := ∑ k, h n k * W k j
/-- A node's share of a logit. -/
def share (z : Fin N → Fin D → EReal) (a : Fin D → EReal) (n : Fin N) : EReal := ∑ j, z n j * a j
/-- The logits of the edges, from the two nodes' shares and the edge's own. -/
def logit (src dst : Fin E → Fin N) (u v : Fin N → EReal) (q : Fin E → EReal) (i : Fin E) : EReal :=
  lk (u (src i) + v (dst i) + q i)
/-- The patch's largest logit. -/
def peak (l : Fin E → EReal) : EReal := Finset.univ.fold max ⊥ l
/-- The unnormalised weights. -/
def wt (l : Fin E → EReal) (i : Fin E) : EReal := Ideal.exp (l i - peak l)
/-- A node's incoming sum. -/
def inSum (dst : Fin E → Fin N) (x : Fin E → EReal) (n : Fin N) : EReal := ∑ i, if dst i = n then x i else 0
/-- The attention. -/
def att (dst : Fin E → Fin N) (x : Fin E → EReal) (i : Fin E) : EReal := Ideal.div (x i) (inSum dst x (dst i) + guard)
/-- The messages added up at their node. -/
def msg (src dst : Fin E → Fin N) (α : Fin E → EReal) (z : Fin N → Fin D → EReal) (n : Fin N) (j : Fin D) : EReal :=
  ∑ i, if dst i = n then α i * z (src i) j else 0
/-- The exponential ramp. -/
def ramp (x : EReal) : EReal := if 0 < x then x else Ideal.exp x - 1

/-- The layer: projection, attention, messages, ramp, residual. -/
def layer (src dst : Fin E → Fin N) (W : Fin D → Fin D → EReal) (a b : Fin D → EReal) (q : Fin E → EReal)
    (h : Fin N → Fin D → EReal) (n : Fin N) (j : Fin D) : EReal :=
  ramp (msg src dst (att dst (wt (logit src dst (share (lin h W) a) (share (lin h W) b) q))) (lin h W) n j) + h n j

/-! ## Its constants -/

theorem guard_pos : ∃ r : ℝ, 0 < r ∧ guard = (r : EReal) := by
  unfold guard
  refine ⟨_, ?_, by simp [Ideal.ofBits, Ideal.ieee]; rfl⟩
  positivity

/-- The word the maximum starts from denotes minus infinity. -/
theorem ofBits_ninf : Ideal.ofBits .f32 0xFF800000#32 = ⊥ := by simp [Ideal.ofBits, Ideal.ieee]

/-- At zero the two readings of the leaky ramp agree. -/
theorem lk_ge (x : EReal) : (if 0 ≤ x then x else slope * x) = lk x := by
  unfold lk
  by_cases h : 0 < x
  · rw [if_pos h, if_pos h.le]
  · by_cases h0 : 0 ≤ x
    · have : x = 0 := le_antisymm (not_lt.1 h) h0
      subst this; simp
    · rw [if_neg h, if_neg h0]

/-- The exponential ramp with the exponential of the negative part. -/
theorem ramp_sel (x : EReal) : (if 0 < x then x else 1 * (Ideal.exp (if 0 < x then 0 else x) - 1)) = ramp x := by
  unfold ramp
  by_cases h : 0 < x
  · rw [if_pos h, if_pos h]
  · rw [if_neg h, if_neg h, if_neg h, one_mul]

/-! ## Where it is real -/

theorem le_peak (l : Fin E → EReal) (i : Fin E) : l i ≤ peak l := by
  unfold peak; exact (Finset.le_fold_max _).2 (Or.inr ⟨i, Finset.mem_univ i, le_rfl⟩)

theorem exp_real_nonneg {x : EReal} (h : x ≠ ⊤) : ∃ r : ℝ, 0 ≤ r ∧ Ideal.exp x = (r : EReal) := by
  induction x using EReal.rec with
  | bot => exact ⟨0, le_rfl, rfl⟩
  | top => exact absurd rfl h
  | coe r => exact ⟨Real.exp r, (Real.exp_pos r).le, rfl⟩

/-- A weight is a real number and no less than zero, whatever the logits are. -/
theorem wt_real (l : Fin E → EReal) (i : Fin E) : ∃ r : ℝ, 0 ≤ r ∧ wt l i = (r : EReal) := by
  refine exp_real_nonneg ?_
  have h := le_peak l i
  generalize peak l = M at h
  generalize l i = x at h
  induction M using EReal.rec with
  | bot => rw [le_bot_iff.1 h]; simp
  | top => simp
  | coe m =>
    induction x using EReal.rec with
    | bot => simp
    | top => simp at h
    | coe r => rw [← EReal.coe_sub]; exact EReal.coe_ne_top _

theorem att_real (dst : Fin E → Fin N) (l : Fin E → EReal) (i : Fin E) : IsR (att dst (wt l) i) := by
  choose g hg0 hg using wt_real l
  obtain ⟨e, he, hge⟩ := guard_pos
  have hs : inSum dst (wt l) (dst i) + guard = (((∑ k, if dst k = dst i then g k else 0) + e : ℝ) : EReal) := by
    unfold inSum
    rw [EReal.coe_add, coe_sum, hge]
    congr 1
    refine Finset.sum_congr rfl fun k _ => ?_
    split
    · exact hg k
    · rfl
  have h0 : (0 : ℝ) ≤ ∑ k, if dst k = dst i then g k else 0 :=
    Finset.sum_nonneg fun k _ => by split; exacts [hg0 k, le_rfl]
  unfold att
  rw [hs, hg i, Ideal.div_coe (by positivity), ← EReal.coe_mul]
  exact ⟨_, rfl⟩

theorem lin_real {h : Fin N → Fin D → EReal} {W : Fin D → Fin D → EReal} (hh : ∀ n k, IsR (h n k)) (hW : ∀ k j, IsR (W k j))
    (n : Fin N) (j : Fin D) : IsR (lin h W n j) :=
  isR_sum _ _ fun k => (hh n k).mul (hW k j)

theorem ramp_real {x : EReal} (hx : IsR x) : IsR (ramp x) := by
  obtain ⟨r, rfl⟩ := hx
  unfold ramp
  split
  · exact ⟨r, rfl⟩
  · exact ⟨Real.exp r - 1, by rw [EReal.coe_sub]; rfl⟩

/-- The layer's outputs are real where its inputs and its projection are. -/
theorem layer_real (src dst : Fin E → Fin N) {W : Fin D → Fin D → EReal} (a b : Fin D → EReal) (q : Fin E → EReal)
    {h : Fin N → Fin D → EReal} (hh : ∀ n k, IsR (h n k)) (hW : ∀ k j, IsR (W k j)) (n : Fin N) (j : Fin D) :
    IsR (layer src dst W a b q h n j) := by
  refine (ramp_real (isR_sum _ _ fun i => ?_)).add (hh n j)
  split
  · exact (att_real _ _ i).mul (lin_real hh hW _ _)
  · exact isR_zero

/-! ## The kernel's ways of computing its parts -/

/-- A node's share through the projected attention vector is its share through the projected features: the sums swap,
    since the numbers are real. -/
theorem share_swap {h : Fin N → Fin D → EReal} {W : Fin D → Fin D → EReal} {a : Fin D → EReal} (hh : ∀ n k, IsR (h n k))
    (hW : ∀ k j, IsR (W k j)) (ha : ∀ j, IsR (a j)) (n : Fin N) :
    ∑ k, h n k * ∑ j, W k j * a j = share (lin h W) a n := by
  choose h' hh' using hh
  choose W' hW' using hW
  choose a' ha' using ha
  unfold share lin
  simp only [hh', hW', ha', ← EReal.coe_mul, ← coe_sum]
  congr 1
  simp only [Finset.mul_sum, Finset.sum_mul]
  rw [Finset.sum_comm]
  exact Finset.sum_congr rfl fun j _ => Finset.sum_congr rfl fun k _ => by ring

/-- A sum against a one-hot column picks the entry. -/
theorem sum_onehot (u : Fin N → EReal) (p : Fin N) : ∑ m, u m * (if m = p then 1 else 0) = u p := by
  simp [mul_ite]

/-- A sum against a one-hot row adds up the entries that name the node. -/
theorem sum_onehot_row (dst : Fin E → Fin N) (x : Fin E → EReal) (n : Fin N) :
    ∑ i, x i * (if n = dst i then 1 else 0) = inSum dst x n := by
  unfold inSum
  exact Finset.sum_congr rfl fun i _ => by
    by_cases h : dst i = n
    · simp [h]
    · simp [h, Ne.symm h]

/-- The patch's attention scattered into a square matrix and multiplied by the features is the messages' sum. -/
theorem msg_dense (src dst : Fin E → Fin N) {α : Fin E → EReal} {z : Fin N → Fin D → EReal} (hα : ∀ i, IsR (α i))
    (hz : ∀ n j, IsR (z n j)) (n : Fin N) (j : Fin D) :
    ∑ m, (∑ i, α i * (if dst i = n ∧ src i = m then 1 else 0)) * z m j = msg src dst α z n j := by
  choose α' hα' using hα
  choose z' hz' using hz
  unfold msg
  have e1 : ∀ m i, (α' i : EReal) * (if dst i = n ∧ src i = m then (1 : EReal) else 0)
      = ((if dst i = n ∧ src i = m then α' i else 0 : ℝ) : EReal) := fun m i => by split <;> simp
  have e2 : ∀ i, (if dst i = n then ((α' i * z' (src i) j : ℝ) : EReal) else 0)
      = ((if dst i = n then α' i * z' (src i) j else 0 : ℝ) : EReal) := fun i => by split <;> simp
  simp only [hα', hz']
  simp only [e1, ← coe_sum, ← EReal.coe_mul]
  simp only [e2, ← coe_sum]
  refine congrArg Real.toEReal ?_
  simp only [Finset.sum_mul]
  rw [Finset.sum_comm]
  refine Finset.sum_congr rfl fun i _ => ?_
  by_cases h : dst i = n <;> simp [h, ite_mul]

end Cert.Proof
-- ==== Proof.KLayer.lean ====
/-
  The kernel's layer read at an index: on every patch of a block it is the layer of Spec.lean, where the one-hot
  matrices are the edges' and the inputs are real.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.Proof.K

open Idealize.ShloMosaic Cert.KernelIdeal Cert.KernelIdeal.Gen
open scoped BigOperators

/-- The edge-product payload of a layer. -/
def kEdge (ew : FVec Ideal S200x3200 .f32) (we : FVec Ideal S1x16 .f32) : FVec Ideal S200x200 .f32 :=
  k0_pay12 (F := Ideal) k0_pay8 k0_pay9 1#32 ew we

/-- A converted equality bit of two small words is one or zero. -/
theorem onehot (a b : Nat) (ha : a < 2 ^ 32) (hb : b < 2 ^ 32) :
    (FloatOps.sitofp (F := Ideal) FTy.f32 (BitVec.setWidth 32 (IntOp.cmpi CmpIPredicate.eq (BitVec.ofNat 32 a) (BitVec.ofNat 32 b))) : EReal)
      = if a = b then 1 else 0 := by
  have e : (BitVec.ofNat 32 a = BitVec.ofNat 32 b) ↔ a = b := by
    constructor
    · intro h
      have h := congrArg BitVec.toNat h
      rwa [BitVec.toNat_ofNat, BitVec.toNat_ofNat, Nat.mod_eq_of_lt ha, Nat.mod_eq_of_lt hb] at h
    · rintro rfl; rfl
  by_cases h : a = b
  · subst h
    rw [if_pos rfl, show IntOp.cmpi CmpIPredicate.eq (BitVec.ofNat 32 a) (BitVec.ofNat 32 a) = 1#1 by simp [IntOp.cmpi]]
    show (((BitVec.setWidth 32 1#1).toInt : ℝ) : EReal) = 1
    norm_num
  · rw [if_neg h, show IntOp.cmpi CmpIPredicate.eq (BitVec.ofNat 32 a) (BitVec.ofNat 32 b) = 0#1 by
      simp only [IntOp.cmpi]
      rw [beq_eq_false_iff_ne.2 fun h' => h (e.1 h')]
      rfl]
    show (((BitVec.setWidth 32 0#1).toInt : ℝ) : EReal) = 0
    norm_num

theorem src_apply (v : IVec S2x200 32) (m : Fin 50) (i : Fin 200) (s : Fin 50)
    (h : v (ix2 0 i) = BitVec.ofNat 32 s.val) :
    k0_pay5 (F := Ideal) v (ix2 m i) = if m = s then 1 else 0 := by
  unfold k0_pay5 k0_pay3
  pointwise
  rw [h, onehot _ _ (by omega) (by omega)]
  simp only [Fin.ext_iff]

theorem dst_apply (v : IVec S2x200 32) (m : Fin 50) (i : Fin 200) (d : Fin 50)
    (h : v (ix2 1 i) = BitVec.ofNat 32 d.val) :
    k0_pay6 (F := Ideal) v (ix2 m i) = if m = d then 1 else 0 := by
  unfold k0_pay6 k0_pay4
  pointwise
  rw [h, onehot _ _ (by omega) (by omega)]
  simp only [Fin.ext_iff]

theorem scat_apply (v : IVec S2x200 32) (i : Fin 200) (m : Fin 2500) (s d : Fin 50)
    (h : v (ix2 0 i) = BitVec.ofNat 32 s.val) (h' : v (ix2 1 i) = BitVec.ofNat 32 d.val) :
    k0_pay7 (F := Ideal) v (ix2 i m) = if m.val = 50 * d.val + s.val then 1 else 0 := by
  unfold k0_pay7 k0_pay3 k0_pay4
  pointwise
  have e : IntOp.addi (IntOp.muli (BitVec.ofNat 32 d.val) 50#32) (BitVec.ofNat 32 s.val) = BitVec.ofNat 32 (50 * d.val + s.val) := by
    apply BitVec.eq_of_toNat_eq
    simp only [IntOp.addi, IntOp.muli, BitVec.toNat_add, BitVec.toNat_mul, BitVec.toNat_ofNat]
    have := d.isLt; have := s.isLt
    omega
  rw [h, h', e, onehot _ _ (by omega) (by omega)]

/-- The floor division by 16 the kernel spells, on the edge columns. -/
theorem div16 : ∀ x : Fin 3200,
    Scalar.select
      (IntOp.andi
        (IntOp.cmpi CmpIPredicate.ne
          (IntOp.subi (BitVec.setWidth 32 (IntOp.cmpi CmpIPredicate.sgt (BitVec.ofNat 32 x.val) 0#32))
            (BitVec.setWidth 32 (IntOp.cmpi CmpIPredicate.slt (BitVec.ofNat 32 x.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 x.val) 16#32) 0#32))
      (IntOp.subi (IntOp.divsi ArithUnit.vector (BitVec.ofNat 32 x.val) 16#32) 1#32)
      (IntOp.divsi ArithUnit.vector (BitVec.ofNat 32 x.val) 16#32) = BitVec.ofNat 32 (x.val / 16) := by
  decide +kernel

/-- A sum over the edge columns against the edge's one-hot keeps the edge's sixteen. -/
theorem edge_sum (f : Fin 3200 → EReal) (g : Fin 16 → EReal) (i : Fin 200) :
    ∑ x : Fin 3200, f x * ((if x.val / 16 = i.val then 1 else 0) * g ⟨x.val % 16, Nat.mod_lt _ (by omega)⟩)
      = ∑ d : Fin 16, f ⟨16 * i.val + d.val, by omega⟩ * g d := by
  rw [Fin.sum_univ_tiles 200 16 rfl, Finset.sum_eq_single i]
  · refine Finset.sum_congr rfl fun d _ => ?_
    have hd := d.isLt
    have h1 : (i.val * 16 + d.val) / 16 = i.val := by omega
    have e1 : (⟨i.val * 16 + d.val, by omega⟩ : Fin 3200) = ⟨16 * i.val + d.val, by omega⟩ := Fin.ext (by dsimp only; omega)
    have e2 : (⟨(i.val * 16 + d.val) % 16, Nat.mod_lt _ (by omega)⟩ : Fin 16) = d := Fin.ext (by dsimp only; omega)
    dsimp only
    rw [if_pos h1, one_mul]
    exact congrArg₂ (· * ·) (congrArg f e1) (congrArg g e2)
  · intro b _ hb
    refine Finset.sum_eq_zero fun d _ => ?_
    have hd := d.isLt
    have hb' : b.val ≠ i.val := fun h => hb (Fin.ext h)
    have h1 : ¬(b.val * 16 + d.val) / 16 = i.val := by omega
    dsimp only
    rw [if_neg h1, zero_mul, mul_zero]
  · intro h; exact absurd (Finset.mem_univ i) h

theorem edge_apply (ew : FVec Ideal S200x3200 .f32) (we : FVec Ideal S1x16 .f32) (p i : Fin 200) :
    kEdge ew we (ix2 p i) = ∑ d : Fin 16, ew (ix2 p ⟨16 * i.val + d.val, by omega⟩) * we (ix2 0 d) := by
  unfold kEdge k0_pay12 k0_pay11 k0_pay10 k0_pay8 k0_pay9
  pointwise
  simp only [div16]
  have em : ∀ x : Fin 3200, (FloatOps.sitofp (F := Ideal) FTy.f32 (BitVec.setWidth 32
      (IntOp.cmpi CmpIPredicate.eq (BitVec.ofNat 32 (x.val / 16)) (BitVec.ofNat 32 i.val))) : EReal)
        = if x.val / 16 = i.val then 1 else 0 := fun x => onehot _ _ (by omega) (by omega)
  simp only [em]
  exact edge_sum (fun x => ew (ix2 p x)) (fun d => we (ix2 0 d)) i

/-! ## The layer's stages -/

/-- The projected features with the two shares beside them. -/
def kZa (h : FVec Ideal S200x50x64 .f32) (a b : FVec Ideal S1x64 .f32) (W W' : FVec Ideal S64x64 .f32) : FVec Ideal S200x50x66 .f32 :=
  matmul (φ₁ := .f32) (φ₂ := .f32) dot_S200x50x64_S64x66_S200x50x66_2_0_01_1_n_n none h
    (concatenate S64x66 1 [⟨S64x64, W'⟩, ⟨S64x2, matmul (φ₁ := .f32) (φ₂ := .f32) dot_S64x64_S2x64_S64x2_1_1_0_0_n_n none W
      (concatenate S2x64 0 [⟨S1x64, shapeCast S1x64 a shapeCasts_S1x64_S1x64⟩, ⟨S1x64, shapeCast S1x64 b shapeCasts_S1x64_S1x64⟩]
        concatenates_S1x64_S1x64_S2x64_d0) (constant S64x2 .f32 0x00000000#32)⟩] concatenates_S64x64_S64x2_S64x66_d1)
    (constant S200x50x66 .f32 0x00000000#32)

/-- The projected features alone. -/
def kZ (za : FVec Ideal S200x50x66 .f32) : FVec Ideal S200x50x64 .f32 :=
  extractStridedSlice S200x50x64 ![0, 0, 0] za slices_S200x50x66_o0_0_0_S200x50x64

/-- The logits before the leaky ramp. -/
def kPre (spe dpe : FVec Ideal S50x200 .f32) (q : FVec Ideal S200x200 .f32) (za : FVec Ideal S200x50x66 .f32) : FVec Ideal S200x200 .f32 :=
  addf (addf
    (matmul (φ₁ := .f32) (φ₂ := .f32) dot_S200x50_S50x200_S200x200_1_0_0_1_n_n none
      (shapeCast S200x50 (extractStridedSlice S200x50x1 ![0, 0, 64] za slices_S200x50x66_o0_0_64_S200x50x1) shapeCasts_S200x50x1_S200x50)
      spe (constant S200x200 .f32 0x00000000#32))
    (matmul (φ₁ := .f32) (φ₂ := .f32) dot_S200x50_S50x200_S200x200_1_0_0_1_n_n none
      (shapeCast S200x50 (extractStridedSlice S200x50x1 ![0, 0, 65] za slices_S200x50x66_o0_0_65_S200x50x1) shapeCasts_S200x50x1_S200x50)
      dpe (constant S200x200 .f32 0x00000000#32))) q

/-- The leaky ramp. -/
def kLk (e : FVec Ideal S200x200 .f32) : FVec Ideal S200x200 .f32 :=
  select (cmpf .ogt e (broadcast S200x200 (Scalar.ofBits (F := Ideal) .f32 0x00000000#32))) e
    (mulf (broadcast S200x200 (Scalar.ofBits (F := Ideal) .f32 0x3E4CCCCD#32)) e)

/-- The weights. -/
def kWt (l : FVec Ideal S200x200 .f32) : FVec Ideal S200x200 .f32 :=
  exp (subf l (broadcastTo S200x200 (shapeCast S200x1 (multiReduction .maximumf [1] S200 l 0xFF800000#32 reduces_S200x200_S200 (.inl rfl) rfl)
    shapeCasts_S200_S200x1) broadcasts_S200x1_S200x200))

/-- The attention. -/
def kAtt (x : FVec Ideal S200x200 .f32) (dpe : FVec Ideal S50x200 .f32) : FVec Ideal S200x200 .f32 :=
  divf x (addf (matmul (φ₁ := .f32) (φ₂ := .f32) dot_S200x50_S50x200_S200x200_1_0_0_1_n_n none
      (matmul (φ₁ := .f32) (φ₂ := .f32) dot_S200x200_S50x200_S200x50_1_1_0_0_n_n none x dpe (constant S200x50 .f32 0x00000000#32))
      dpe (constant S200x200 .f32 0x00000000#32))
    (broadcast S200x200 (Scalar.ofBits (F := Ideal) .f32 0x0DA24260#32)))

/-- The messages. -/
def kMsg (α : FVec Ideal S200x200 .f32) (scat : FVec Ideal S200x2500 .f32) (z : FVec Ideal S200x50x64 .f32) : FVec Ideal S200x50x64 .f32 :=
  matmul (φ₁ := .f32) (φ₂ := .f32) dot_S200x50x50_S200x50x64_S200x50x64_2_1_1_2_0_0 none
    (shapeCast S200x50x50 (matmul (φ₁ := .f32) (φ₂ := .f32) dot_S200x200_S200x2500_S200x2500_1_0_0_1_n_n none α scat
      (constant S200x2500 .f32 0x00000000#32)) shapeCasts_S200x2500_S200x50x50) z (constant S200x50x64 .f32 0x00000000#32)

/-- The ramp with the residual. -/
def kOut (m h : FVec Ideal S200x50x64 .f32) : FVec Ideal S200x50x64 .f32 :=
  addf (select (cmpf .ogt m (broadcast S200x50x64 (Scalar.ofBits (F := Ideal) .f32 0x00000000#32))) m
    (subf (exp m) (broadcast S200x50x64 (Scalar.ofBits (F := Ideal) .f32 0x3F800000#32)))) h

/-- The layer on a block of patches. -/
def kLayer (spe dpe : FVec Ideal S50x200 .f32) (scat : FVec Ideal S200x2500 .f32) (q : FVec Ideal S200x200 .f32)
    (a b : FVec Ideal S1x64 .f32) (W : FVec Ideal S64x64 .f32) (h : FVec Ideal S200x50x64 .f32) : FVec Ideal S200x50x64 .f32 :=
  kOut (kMsg (kAtt (kWt (kLk (kPre spe dpe q (kZa h a b W W)))) dpe) scat (kZ (kZa h a b W W))) h

theorem pay16_eq (spe dpe : FVec Ideal S50x200 .f32) (scat : FVec Ideal S200x2500 .f32) (q : FVec Ideal S200x200 .f32)
    (h : FVec Ideal S200x50x64 .f32) (a b : FVec Ideal S1x64 .f32) (W : FVec Ideal S64x64 .f32) :
    k0_pay16 (F := Ideal) spe dpe scat q h (k0_pay15 (F := Ideal) a) b W W = kLayer spe dpe scat q a b W h := rfl

/-- The second layer's payloads together. -/
theorem pay22_eq (spe dpe : FVec Ideal S50x200 .f32) (scat : FVec Ideal S200x2500 .f32) (q : FVec Ideal S200x200 .f32)
    (h : FVec Ideal S200x50x64 .f32) (a b : FVec Ideal S1x64 .f32) (W : FVec Ideal S64x64 .f32) :
    k0_pay22 (F := Ideal) dpe scat h (k0_pay19 (F := Ideal) h a b W W) (k0_pay20 (F := Ideal) spe dpe q h a b W W)
      (k0_pay21 (F := Ideal) spe dpe q h a b W W) (constant S200x200 .f32 0x00000000#32) = kLayer spe dpe scat q a b W h := rfl

/-! ## Read at an index -/

variable {spe dpe : FVec Ideal S50x200 .f32} {scat : FVec Ideal S200x2500 .f32} {src dst : Fin 200 → Fin 50}

theorem z_apply (h : FVec Ideal S200x50x64 .f32) (a b : FVec Ideal S1x64 .f32) (W : FVec Ideal S64x64 .f32) (p : Fin 200)
    (n : Fin 50) (j : Fin 64) :
    kZ (kZa h a b W W) (ix3 p n j) = lin (fun n k => h (ix3 p n k)) (fun k j => W (ix2 k j)) n j := by
  unfold kZ kZa
  pointwise
  rfl

theorem pre_apply (hs : ∀ m i, spe (ix2 m i) = if m = src i then 1 else 0) (hd : ∀ m i, dpe (ix2 m i) = if m = dst i then 1 else 0)
    (q : FVec Ideal S200x200 .f32) (h : FVec Ideal S200x50x64 .f32) (a b : FVec Ideal S1x64 .f32) (W : FVec Ideal S64x64 .f32)
    (hh : ∀ p n k, IsR (h (ix3 p n k))) (hW : ∀ k j, IsR (W (ix2 k j))) (ha : ∀ j, IsR (a (ix2 0 j))) (hb : ∀ j, IsR (b (ix2 0 j)))
    (p i : Fin 200) :
    kPre spe dpe q (kZa h a b W W) (ix2 p i)
      = share (lin (fun n k => h (ix3 p n k)) (fun k j => W (ix2 k j))) (fun j => a (ix2 0 j)) (src i)
        + share (lin (fun n k => h (ix3 p n k)) (fun k j => W (ix2 k j))) (fun j => b (ix2 0 j)) (dst i) + q (ix2 p i) := by
  unfold kPre kZa
  pointwise
  simp only [hs, hd, sum_onehot]
  rw [share_swap (hh p) hW ha, share_swap (hh p) hW hb]

theorem lk_apply (e : FVec Ideal S200x200 .f32) (p i : Fin 200) : kLk e (ix2 p i) = lk (e (ix2 p i)) := by
  unfold kLk
  pointwise
  rfl

theorem wt_apply (l : FVec Ideal S200x200 .f32) (p i : Fin 200) : kWt l (ix2 p i) = wt (fun i => l (ix2 p i)) i := by
  unfold kWt
  pointwise
  unfold wt peak
  rw [ofBits_ninf]

theorem att_apply (hd : ∀ m i, dpe (ix2 m i) = if m = dst i then 1 else 0) (x : FVec Ideal S200x200 .f32) (p i : Fin 200) :
    kAtt x dpe (ix2 p i) = att dst (fun i => x (ix2 p i)) i := by
  unfold kAtt
  pointwise
  simp only [hd, sum_onehot, sum_onehot_row]
  rfl

theorem msg_apply (hc : ∀ i (m : Fin 2500), scat (ix2 i m) = if m.val = 50 * (dst i).val + (src i).val then 1 else 0)
    (α : FVec Ideal S200x200 .f32) (z : FVec Ideal S200x50x64 .f32) (p : Fin 200) (hα : ∀ i, IsR (α (ix2 p i)))
    (hz : ∀ n j, IsR (z (ix3 p n j))) (n : Fin 50) (j : Fin 64) :
    kMsg α scat z (ix3 p n j) = msg src dst (fun i => α (ix2 p i)) (fun n j => z (ix3 p n j)) n j := by
  unfold kMsg
  pointwise
  rw [← msg_dense src dst hα hz]
  refine Finset.sum_congr rfl fun m _ => congrArg (· * _) (Finset.sum_congr rfl fun i _ => congrArg (_ * ·) ?_)
  rw [hc]
  have h1 := (src i).isLt; have h2 := m.isLt
  refine if_congr ?_ rfl rfl
  dsimp only
  rw [Fin.ext_iff, Fin.ext_iff]
  omega

theorem out_apply (m h : FVec Ideal S200x50x64 .f32) (p : Fin 200) (n : Fin 50) (j : Fin 64) :
    kOut m h (ix3 p n j) = ramp (m (ix3 p n j)) + h (ix3 p n j) := by
  unfold kOut
  pointwise
  rfl

/-- The kernel's layer on one patch of the block is the layer of Spec.lean on that patch. -/
theorem layer_apply (hs : ∀ m i, spe (ix2 m i) = if m = src i then 1 else 0) (hd : ∀ m i, dpe (ix2 m i) = if m = dst i then 1 else 0)
    (hc : ∀ i (m : Fin 2500), scat (ix2 i m) = if m.val = 50 * (dst i).val + (src i).val then 1 else 0)
    (q : FVec Ideal S200x200 .f32) (h : FVec Ideal S200x50x64 .f32) (a b : FVec Ideal S1x64 .f32) (W : FVec Ideal S64x64 .f32)
    (hh : ∀ p n k, IsR (h (ix3 p n k))) (hW : ∀ k j, IsR (W (ix2 k j))) (ha : ∀ j, IsR (a (ix2 0 j))) (hb : ∀ j, IsR (b (ix2 0 j)))
    (p : Fin 200) (n : Fin 50) (j : Fin 64) :
    kLayer spe dpe scat q a b W h (ix3 p n j)
      = layer src dst (fun k j => W (ix2 k j)) (fun j => a (ix2 0 j)) (fun j => b (ix2 0 j)) (fun i => q (ix2 p i))
          (fun n k => h (ix3 p n k)) n j := by
  unfold kLayer layer logit
  have e : ∀ i, kAtt (kWt (kLk (kPre spe dpe q (kZa h a b W W)))) dpe (ix2 p i) = _ := fun i => att_apply hd _ p i
  rw [out_apply, msg_apply hc]
  · simp only [att_apply hd, wt_apply, lk_apply, pre_apply hs hd q h a b W hh hW ha hb, z_apply]
  · intro i
    rw [att_apply hd]
    simp only [wt_apply]
    exact att_real _ _ _
  · intro n j
    rw [z_apply]
    exact lin_real (hh p) hW n j

end Cert.Proof.K
-- ==== Proof.KRow.lean ====
/-
  The rows the kernel sums at a point, and the product of the summed rows with the classifier, read at an index.
-/
module

public import proofs.«01_k».proof.Proof.KLayer

@[expose] public section

set_option maxRecDepth 16384

noncomputable section

open Idealize.ShloMosaic Idealize.ShloMosaic.TcCoe
open Cert.KernelIdeal Cert.KernelIdeal.Gen
open scoped BigOperators

namespace Cert.Proof.K

/-- A layer from the point's edge list and edge features. -/
def lay (ei : Vec Ideal S2x200 .i32) (ew : Vec Ideal S200x3200 .f32) (we : Vec Ideal S1x16 .f32) (a b : Vec Ideal S1x64 .f32)
    (W : Vec Ideal S64x64 .f32) (h : Vec Ideal S200x50x64 .f32) : FVec Ideal S200x50x64 .f32 :=
  kLayer (k0_pay5 ei) (k0_pay6 ei) (k0_pay7 ei) (kEdge ew we) a b W h

/-- A row with a layer's output summed over the point's patches and nodes added to it. -/
def rowSum (H : FVec Ideal S200x50x64 .f32) (r : Vec Ideal S1x64 .f32) : FVec Ideal S1x64 .f32 := k0_pay17 (F := Ideal) H r

theorem pay23_eq (spe dpe : FVec Ideal S50x200 .f32) (scat : FVec Ideal S200x2500 .f32) (q : FVec Ideal S200x200 .f32)
    (h : FVec Ideal S200x50x64 .f32) (a b : FVec Ideal S1x64 .f32) (W : FVec Ideal S64x64 .f32) (r : Vec Ideal S1x64 .f32) :
    k0_pay23 (F := Ideal) dpe scat h (k0_pay19 (F := Ideal) h a b W W) (k0_pay20 (F := Ideal) spe dpe q h a b W W)
      (k0_pay21 (F := Ideal) spe dpe q h a b W W) (constant S200x200 .f32 0x00000000#32) r
      = rowSum (kLayer spe dpe scat q a b W h) r := rfl

/-- The third layer's payloads together, over the pieces of the second. -/
theorem pay28_eq (spe dpe : FVec Ideal S50x200 .f32) (scat : FVec Ideal S200x2500 .f32) (q : FVec Ideal S200x200 .f32)
    (v129 v147 : FVec Ideal S200x50x64 .f32) (v165 : FVec Ideal S200x200 .f32) (v166 : FVec Ideal S200x50 .f32) (c : FVec Ideal S200x200 .f32)
    (a b : FVec Ideal S1x64 .f32) (W : FVec Ideal S64x64 .f32) (r : Vec Ideal S1x64 .f32) :
    k0_pay28 (F := Ideal) dpe scat q (k0_pay22 dpe scat v129 v147 v165 v166 c) (k0_pay25 dpe scat v129 v147 v165 v166 c a b W W)
      (k0_pay26 dpe scat v129 v147 v165 v166 c a b W W) (k0_pay27 spe dpe scat v129 v147 v165 v166 c a b W W)
      (constant S200x200 .f32 0x00000000#32) r
      = rowSum (kLayer spe dpe scat q a b W (k0_pay22 dpe scat v129 v147 v165 v166 c)) r := rfl

theorem row_apply (H : FVec Ideal S200x50x64 .f32) (r : Vec Ideal S1x64 .f32) (j : Fin 64) :
    rowSum H r (ix2 0 j) = r (ix2 0 j) + ∑ p : Fin 200, ∑ n : Fin 50, H (ix3 p n j) := by
  unfold rowSum k0_pay17
  pointwise
  refine congrArg (r (ix2 0 j) + ·) ?_
  have hf : ∀ i : S200x50x64.Idx, reduces_S200x50x64_S64.drop i = ix1 j ↔ ∃ k : Fin 200 × Fin 50, ix3 k.1 k.2 j = i := by
    intro i
    obtain ⟨p, n, j', rfl⟩ : ∃ p n j', i = ix3 p n j' := ⟨i 0, i 1, i 2, ValueIdx.eq_ix3 i⟩
    constructor
    · intro e
      have e' : j' = j := Fin.ext (congrArg Fin.val (congrFun e (0 : Fin 1)))
      exact ⟨(p, n), by rw [e']⟩
    · rintro ⟨k, e⟩
      have e' : j = j' := congrFun e 2
      funext b
      fin_cases b
      exact Fin.ext (congrArg Fin.val e'.symm)
  unfold Ideal.reduceAdd
  refine (Finset.sum_filter_eq_sum_of_fiber _ (fun k : Fin 200 × Fin 50 => ix3 k.1 k.2 j)
    (fun _ _ e => Prod.ext (congrFun e 0) (congrFun e 1)) hf H).trans ?_
  exact Fintype.sum_prod_type _

theorem pay1_apply (S : Vec Ideal S3x64 .f32) (C0 C1 C2 : Vec Ideal S64x16 .f32) (o : Fin 16) :
    k0_pay1 (F := Ideal) S C0 C1 C2 (ix2 0 o)
      = (∑ j : Fin 64, S (ix2 0 j) * ((1 / 200000 : ℝ) : EReal) * C0 (ix2 j o))
        + (∑ j : Fin 64, S (ix2 1 j) * ((1 / 200000 : ℝ) : EReal) * C1 (ix2 j o))
        + ∑ j : Fin 64, S (ix2 2 j) * ((1 / 200000 : ℝ) : EReal) * C2 (ix2 j o) := by
  have hk : Named.named (F := Ideal) κ "mean" (φ := .f32) 0x36A7C5AC#32 = (((1 / 200000 : ℝ)) : EReal) :=
    IdealRules.named_const.ideal_named_scalar _ _ _ _ rfl
  unfold k0_pay1
  pointwise
  simp only [hk]

/-- Three rows one above the other. -/
def stack (w0 w1 w2 : Vec Ideal S1x64 .f32) : Vec Ideal S3x64 .f32 := fun u =>
  (![w0, w1, w2] (u 0)) (ix2 0 (u 1))

/-- A row of three. -/
def row (S : Vec Ideal S3x64 .f32) (l : Fin 3) : Vec Ideal S1x64 .f32 := fun u => S (ix2 l (u 1))

theorem stack_of {S : Vec Ideal S3x64 .f32} {w0 w1 w2 : Vec Ideal S1x64 .f32} (h0 : ∀ j, S (ix2 0 j) = w0 (ix2 0 j))
    (h1 : ∀ j, S (ix2 1 j) = w1 (ix2 0 j)) (h2 : ∀ j, S (ix2 2 j) = w2 (ix2 0 j)) : S = stack w0 w1 w2 := by
  funext u
  obtain ⟨l, j, rfl⟩ : ∃ l j, u = ix2 l j := ⟨u 0, u 1, ValueIdx.eq_ix2 u⟩
  fin_cases l
  · exact h0 j
  · exact h1 j
  · exact h2 j

end Cert.Proof.K

end
-- ==== Proof.KCase.lean ====
/-
  What the kernel body leaves behind at a point: the three summed rows after the point, and at the last point the classified result.
-/
module

public import proofs.«01_k».proof.Proof.KRow
public import proofs.«01_k».proof.Proof.Gen.KernelIdeal.Value
public import Idealize.ShloMosaic.Lib.WritesUnit
public import Idealize.ShloMosaic.Lib.Tactic
public import Idealize.ShloMosaic.Lib.Pipeline.Value

@[expose] public section

set_option maxRecDepth 16384
noncomputable section
open Idealize.ShloMosaic Idealize.ShloMosaic.TcCoe Idealize.ShloMosaic.Tactic Idealize.SL.Sem
open Cert.KernelIdeal Cert.KernelIdeal.Gen

namespace Cert.Proof.K

theorem hz : (![0, 0] : Fin 2 → Nat) = fun _ => 0 := by funext a; fin_cases a <;> rfl

theorem hz3 : (![0, 0, 0] : Fin 3 → Nat) = fun _ => 0 := by funext a; fin_cases a <;> rfl

/-- The three rows after a point: each layer's output summed over the block, added to the row before. -/
def step (x0 : Vec Ideal S200x50x64 .f32) (x1 : Vec Ideal S200x3200 .f32) (x2 : Vec Ideal S2x200 .i32) (x3 x4 x5 : Vec Ideal S64x64 .f32)
    (x6 x7 x8 x9 x10 x11 : Vec Ideal S1x64 .f32) (x12 x13 x14 : Vec Ideal S1x16 .f32) (r : Vec Ideal S3x64 .f32) : Vec Ideal S3x64 .f32 :=
  stack (rowSum (lay x2 x1 x12 x6 x9 x3 x0) (row r 0))
    (rowSum (lay x2 x1 x13 x7 x10 x4 (lay x2 x1 x12 x6 x9 x3 x0)) (row r 1))
    (rowSum (lay x2 x1 x14 x8 x11 x5 (lay x2 x1 x13 x7 x10 x4 (lay x2 x1 x12 x6 x9 x3 x0))) (row r 2))

/-- The sixty-four rows of the classifier that one layer meets. -/
def cls (C : Vec Ideal S192x16 .f32) (l : Fin 3) : Vec Ideal S64x16 .f32 := fun u => C (Idealize.ShloMosaic.ix2 ⟨64 * l.val + (u 0).val, by have h1 := l.isLt; have h2 : (u 0).val < 64 := (u 0).isLt; show _ < 192; omega⟩ (u 1))

section
variable {sp sp' : Space} {κ' κ'' : Kind} (v : View sig κ' sp S3x64 .f32) (v' : View sig κ'' sp' S3x64 .f32) (f : v.ty.Contents (Elt Ideal)) (w0 w1 w2 : Vec Ideal S1x64 .f32)
  (i0 : ∀ a, (![0, 0] : Fin 2 → Nat) a + (![1, 64] : Fin 2 → Nat) a ≤ S3x64.size a)
  (i1 : ∀ a, (![1, 0] : Fin 2 → Nat) a + (![1, 64] : Fin 2 → Nat) a ≤ S3x64.size a)
  (i2 : ∀ a, (![2, 0] : Fin 2 → Nat) a + (![1, 64] : Fin 2 → Nat) a ≤ S3x64.size a)
  (L : List (View.Piece (Elt Ideal) S3x64 .f32))

/-- Three rows stored one after the other over anything are the rows one above the other. -/
theorem rows_read :
    v.read (Elt Ideal) (v.writes (Elt Ideal) f (⟨Rect.unit ![2, 0] ![1, 64] i2, w2⟩ :: ⟨Rect.unit ![1, 0] ![1, 64] i1, w1⟩
      :: ⟨Rect.unit ![0, 0] ![1, 64] i0, w0⟩ :: L)) = stack w0 w1 w2 := by
  refine stack_of (fun j => ?_) (fun j => ?_) (fun j => ?_)
  · rw [View.read_writes_cons_rows_of_not_mem (o := 2) (W := 1) v f i2 w2 _ _ rfl rfl (Or.inl (show 0 < 2 by decide)),
      View.read_writes_cons_rows_of_not_mem (o := 1) (W := 1) v f i1 w1 _ _ rfl rfl (Or.inl (show 0 < 1 by decide))]
    exact View.read_writes_cons_rows_of_mem (o := 0) v f i0 w0 _ _ (Idealize.ShloMosaic.ix2 0 j) rfl rfl rfl
  · rw [View.read_writes_cons_rows_of_not_mem (o := 2) (W := 1) v f i2 w2 _ _ rfl rfl (Or.inl (show 1 < 2 by decide))]
    exact View.read_writes_cons_rows_of_mem (o := 1) v f i1 w1 _ _ (Idealize.ShloMosaic.ix2 0 j) rfl rfl rfl
  · exact View.read_writes_cons_rows_of_mem (o := 2) v f i2 w2 _ _ (Idealize.ShloMosaic.ix2 0 j) rfl rfl rfl

theorem ld_row0 (S : Vec Ideal S3x64 .f32) : View.ld S (Rect.unit ![0, 0] ![1, 64] i0) = row S 0 := by
  rw [View.ld_unit]; funext u; obtain ⟨l, j, rfl⟩ : ∃ l j, u = Idealize.ShloMosaic.ix2 l j := ⟨u 0, u 1, ValueIdx.eq_ix2 u⟩
  obtain rfl : l = 0 := Fin.ext (by omega)
  exact congrArg S (funext fun a => by fin_cases a <;> exact Fin.ext (by simp [Idealize.ShloMosaic.ix2]))
theorem ld_row1 (S : Vec Ideal S3x64 .f32) : View.ld S (Rect.unit ![1, 0] ![1, 64] i1) = row S 1 := by
  rw [View.ld_unit]; funext u; obtain ⟨l, j, rfl⟩ : ∃ l j, u = Idealize.ShloMosaic.ix2 l j := ⟨u 0, u 1, ValueIdx.eq_ix2 u⟩
  obtain rfl : l = 0 := Fin.ext (by omega)
  exact congrArg S (funext fun a => by fin_cases a <;> exact Fin.ext (by simp [Idealize.ShloMosaic.ix2]))
theorem ld_row2 (S : Vec Ideal S3x64 .f32) : View.ld S (Rect.unit ![2, 0] ![1, 64] i2) = row S 2 := by
  rw [View.ld_unit]; funext u; obtain ⟨l, j, rfl⟩ : ∃ l j, u = Idealize.ShloMosaic.ix2 l j := ⟨u 0, u 1, ValueIdx.eq_ix2 u⟩
  obtain rfl : l = 0 := Fin.ext (by omega)
  exact congrArg S (funext fun a => by fin_cases a <;> exact Fin.ext (by simp [Idealize.ShloMosaic.ix2]))

theorem whole_read (z : Vec Ideal S3x64 .f32) (iz : ∀ a, (![0, 0] : Fin 2 → Nat) a + (![3, 64] : Fin 2 → Nat) a ≤ S3x64.size a) (l : Fin 3) (j : Fin 64) :
    v.read (Elt Ideal) (v.writes (Elt Ideal) f (⟨Rect.unit ![0, 0] ![3, 64] iz, z⟩ :: L)) (Idealize.ShloMosaic.ix2 l j) = z (Idealize.ShloMosaic.ix2 l j) :=
  View.read_writes_cons_rows_of_mem (o := 0) v f iz z _ _ (Idealize.ShloMosaic.ix2 l j) rfl (Nat.zero_add _).symm rfl

theorem cov0 (z : Vec Ideal S3x64 .f32) (iz : ∀ a, (![0, 0] : Fin 2 → Nat) a + (![3, 64] : Fin 2 → Nat) a ≤ S3x64.size a) :
    v.readCov [⟨Rect.unit ![0, 0] ![3, 64] iz, z⟩] (Rect.unit (s := S3x64) ![0, 0] ![1, 64] i0).toLoadRect = row z 0 := by
  refine (ld_row0 i0 (v.read (Elt Ideal) (v.writes (Elt Ideal) v.junk [⟨Rect.unit ![0, 0] ![3, 64] iz, z⟩]))).trans ?_
  funext u
  exact whole_read v _ _ z iz 0 (u 1)

theorem cov1 (z : Vec Ideal S3x64 .f32) (iz : ∀ a, (![0, 0] : Fin 2 → Nat) a + (![3, 64] : Fin 2 → Nat) a ≤ S3x64.size a) :
    v.readCov [⟨Rect.unit ![0, 0] ![1, 64] i0, w0⟩, ⟨Rect.unit ![0, 0] ![3, 64] iz, z⟩] (Rect.unit (s := S3x64) ![1, 0] ![1, 64] i1).toLoadRect = row z 1 := by
  refine (ld_row1 i1 (v.read (Elt Ideal) (v.writes (Elt Ideal) v.junk
    [⟨Rect.unit ![0, 0] ![1, 64] i0, w0⟩, ⟨Rect.unit ![0, 0] ![3, 64] iz, z⟩]))).trans ?_
  funext u
  refine (View.read_writes_cons_rows_of_not_mem (o := 0) (W := 1) v v.junk i0 w0 _ (Idealize.ShloMosaic.ix2 1 (u 1)) rfl rfl (Or.inr (show 0 + 1 ≤ 1 by decide))).trans ?_
  exact whole_read v _ _ z iz 1 (u 1)

theorem cov2 (z : Vec Ideal S3x64 .f32) (iz : ∀ a, (![0, 0] : Fin 2 → Nat) a + (![3, 64] : Fin 2 → Nat) a ≤ S3x64.size a) :
    v.readCov [⟨Rect.unit ![1, 0] ![1, 64] i1, w1⟩, ⟨Rect.unit ![0, 0] ![1, 64] i0, w0⟩, ⟨Rect.unit ![0, 0] ![3, 64] iz, z⟩]
      (Rect.unit (s := S3x64) ![2, 0] ![1, 64] i2).toLoadRect = row z 2 := by
  refine (ld_row2 i2 (v.read (Elt Ideal) (v.writes (Elt Ideal) v.junk
    [⟨Rect.unit ![1, 0] ![1, 64] i1, w1⟩, ⟨Rect.unit ![0, 0] ![1, 64] i0, w0⟩, ⟨Rect.unit ![0, 0] ![3, 64] iz, z⟩]))).trans ?_
  funext u
  refine (View.read_writes_cons_rows_of_not_mem (o := 1) (W := 1) v v.junk i1 w1 _ (Idealize.ShloMosaic.ix2 2 (u 1)) rfl rfl (Or.inr (show 1 + 1 ≤ 2 by decide))).trans ?_
  refine (View.read_writes_cons_rows_of_not_mem (o := 0) (W := 1) v v.junk i0 w0 _ (Idealize.ShloMosaic.ix2 2 (u 1)) rfl rfl (Or.inr (show 0 + 1 ≤ 2 by decide))).trans ?_
  exact whole_read v _ _ z iz 2 (u 1)

theorem cov_all (iz : ∀ a, (![0, 0] : Fin 2 → Nat) a + (![3, 64] : Fin 2 → Nat) a ≤ S3x64.size a) :
    v.readCov (⟨Rect.unit ![2, 0] ![1, 64] i2, w2⟩ :: ⟨Rect.unit ![1, 0] ![1, 64] i1, w1⟩ :: ⟨Rect.unit ![0, 0] ![1, 64] i0, w0⟩ :: L)
      (Rect.unit (s := S3x64) ![0, 0] ![3, 64] iz).toLoadRect = stack w0 w1 w2 := by
  refine (View.ld_unit_zero (S := S3x64) hz iz (v.read (Elt Ideal) (v.writes (Elt Ideal) v.junk
    (⟨Rect.unit ![2, 0] ![1, 64] i2, w2⟩ :: ⟨Rect.unit ![1, 0] ![1, 64] i1, w1⟩ :: ⟨Rect.unit ![0, 0] ![1, 64] i0, w0⟩ :: L)))).trans ?_
  exact rows_read v v.junk w0 w1 w2 i0 i1 i2 L

theorem ld_cls (C : Vec Ideal S192x16 .f32) (l : Fin 3) {o : Nat} (ho : o = 64 * l.val)
    (h : ∀ a, (![o, 0] : Fin 2 → Nat) a + (![64, 16] : Fin 2 → Nat) a ≤ S192x16.size a) :
    View.ld C (Rect.unit ![o, 0] ![64, 16] h) = cls C l := by
  subst ho
  rw [View.ld_unit]; funext u; obtain ⟨a, b, rfl⟩ : ∃ a b, u = Idealize.ShloMosaic.ix2 a b := ⟨u 0, u 1, ValueIdx.eq_ix2 u⟩
  exact congrArg C (funext fun d => by fin_cases d <;> exact Fin.ext (by simp [Idealize.ShloMosaic.ix2]))

/-- A whole store, then the rows one by one, each from the row the whole store left. -/
theorem rows_after (z : Vec Ideal S3x64 .f32) (H0 H1 H2 : FVec Ideal S200x50x64 .f32)
    (iz : ∀ a, (![0, 0] : Fin 2 → Nat) a + (![3, 64] : Fin 2 → Nat) a ≤ S3x64.size a) :
    v.read (Elt Ideal) (v.writes (Elt Ideal) f (
      ⟨Rect.unit ![2, 0] ![1, 64] i2, rowSum H2 (v'.readCov
        [⟨Rect.unit ![1, 0] ![1, 64] i1, rowSum H1 (v'.readCov
          [⟨Rect.unit ![0, 0] ![1, 64] i0, rowSum H0 (v'.readCov [⟨Rect.unit ![0, 0] ![3, 64] iz, z⟩] (Rect.unit (s := S3x64) ![0, 0] ![1, 64] i0).toLoadRect)⟩,
            ⟨Rect.unit ![0, 0] ![3, 64] iz, z⟩] (Rect.unit (s := S3x64) ![1, 0] ![1, 64] i1).toLoadRect)⟩,
          ⟨Rect.unit ![0, 0] ![1, 64] i0, rowSum H0 (v'.readCov [⟨Rect.unit ![0, 0] ![3, 64] iz, z⟩] (Rect.unit (s := S3x64) ![0, 0] ![1, 64] i0).toLoadRect)⟩,
          ⟨Rect.unit ![0, 0] ![3, 64] iz, z⟩] (Rect.unit (s := S3x64) ![2, 0] ![1, 64] i2).toLoadRect)⟩
      :: ⟨Rect.unit ![1, 0] ![1, 64] i1, rowSum H1 (v'.readCov
          [⟨Rect.unit ![0, 0] ![1, 64] i0, rowSum H0 (v'.readCov [⟨Rect.unit ![0, 0] ![3, 64] iz, z⟩] (Rect.unit (s := S3x64) ![0, 0] ![1, 64] i0).toLoadRect)⟩,
            ⟨Rect.unit ![0, 0] ![3, 64] iz, z⟩] (Rect.unit (s := S3x64) ![1, 0] ![1, 64] i1).toLoadRect)⟩
      :: ⟨Rect.unit ![0, 0] ![1, 64] i0, rowSum H0 (v'.readCov [⟨Rect.unit ![0, 0] ![3, 64] iz, z⟩] (Rect.unit (s := S3x64) ![0, 0] ![1, 64] i0).toLoadRect)⟩
      :: L)) = stack (rowSum H0 (row z 0)) (rowSum H1 (row z 1)) (rowSum H2 (row z 2)) := by
  rw [rows_read, cov0, cov1, cov2]

end

theorem step_congr {H0 H1 H2 H0' H1' H2' : FVec Ideal S200x50x64 .f32} {r0 r1 r2 r0' r1' r2' : Vec Ideal S1x64 .f32}
    (h0 : H0 = H0') (h1 : H1 = H1') (h2 : H2 = H2') (e0 : r0 = r0') (e1 : r1 = r1') (e2 : r2 = r2') :
    stack (rowSum H0 r0) (rowSum H1 r1) (rowSum H2 r2) = stack (rowSum H0' r0') (rowSum H1' r1') (rowSum H2' r2') := by
  subst_vars; rfl

/-- At the first point the rows start from zero. -/
theorem sout_A (c : Dev nD) (i : grid0.Coords) (arg1 : Memref sig .tc .vmem S200x50x64 .f32) (harg1 : arg1.IsWhole) (arg2 : Memref sig .tc .vmem S200x3200 .f32) (harg2 : arg2.IsWhole) (arg3 : Memref sig .tc .vmem S2x200 .i32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S1x16 .f32) (harg15 : arg15.IsWhole) (arg16 : Memref sig .tc .vmem S192x16 .f32) (harg16 : arg16.IsWhole) (arg17 : Memref sig .tc .vmem S1x16 .f32) (harg17 : arg17.IsWhole) (arg18 : Memref sig .tc .vmem S3x64 .f32) (harg18 : arg18.IsWhole) (hc0 : cond0_0 i) (hc1 : ¬cond0_1 i)
    (x0 : Vec Ideal S200x50x64 .f32) (x1 : Vec Ideal S200x3200 .f32) (x2 : Vec Ideal S2x200 .i32) (x3 : Vec Ideal S64x64 .f32) (x4 : Vec Ideal S64x64 .f32) (x5 : Vec Ideal S64x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x16 .f32) (x13 : Vec Ideal S1x16 .f32) (x14 : Vec Ideal S1x16 .f32) (x15 : Vec Ideal S192x16 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 = step x0 x1 x2 x3 x4 x5 x6 x7 x8 x9 x10 x11 x12 x13 x14 (k0_pay2 (F := Ideal)) := by
  have r1 : (View.readAt (Elt Ideal) arg1.view (Rect.unit (s := S200x50x64) ![0, 0, 0] S200x50x64.size inb_S200x50x64_S200x50x64_0_0_0).toLoadRect (harg1.unread x0)) = x0 := by rw [View.readAt_eq_ld, harg1.read_unread, View.ld_unit_zero (S := S200x50x64) hz3]
  have r2 : (View.readAt (Elt Ideal) arg2.view (Rect.unit (s := S200x3200) ![0, 0] S200x3200.size inb_S200x3200_S200x3200_0_0).toLoadRect (harg2.unread x1)) = x1 := by rw [View.readAt_eq_ld, harg2.read_unread, View.ld_unit_zero (S := S200x3200) hz]
  have r3 : (View.readAt (Elt Ideal) arg3.view (Rect.unit (s := S2x200) ![0, 0] S2x200.size inb_S2x200_S2x200_0_0).toLoadRect (harg3.unread x2)) = x2 := by rw [View.readAt_eq_ld, harg3.read_unread, View.ld_unit_zero (S := S2x200) hz]
  have r4 : (View.readAt (Elt Ideal) arg4.view (Rect.unit (s := S64x64) ![0, 0] S64x64.size inb_S64x64_S64x64_0_0).toLoadRect (harg4.unread x3)) = x3 := by rw [View.readAt_eq_ld, harg4.read_unread, View.ld_unit_zero (S := S64x64) hz]
  have r5 : (View.readAt (Elt Ideal) arg5.view (Rect.unit (s := S64x64) ![0, 0] S64x64.size inb_S64x64_S64x64_0_0).toLoadRect (harg5.unread x4)) = x4 := by rw [View.readAt_eq_ld, harg5.read_unread, View.ld_unit_zero (S := S64x64) hz]
  have r6 : (View.readAt (Elt Ideal) arg6.view (Rect.unit (s := S64x64) ![0, 0] S64x64.size inb_S64x64_S64x64_0_0).toLoadRect (harg6.unread x5)) = x5 := by rw [View.readAt_eq_ld, harg6.read_unread, View.ld_unit_zero (S := S64x64) hz]
  have r7 : (View.readAt (Elt Ideal) arg7.view (Rect.unit (s := S1x64) ![0, 0] S1x64.size inb_S1x64_S1x64_0_0).toLoadRect (harg7.unread x6)) = x6 := by rw [View.readAt_eq_ld, harg7.read_unread, View.ld_unit_zero (S := S1x64) hz]
  have r8 : (View.readAt (Elt Ideal) arg8.view (Rect.unit (s := S1x64) ![0, 0] S1x64.size inb_S1x64_S1x64_0_0).toLoadRect (harg8.unread x7)) = x7 := by rw [View.readAt_eq_ld, harg8.read_unread, View.ld_unit_zero (S := S1x64) hz]
  have r9 : (View.readAt (Elt Ideal) arg9.view (Rect.unit (s := S1x64) ![0, 0] S1x64.size inb_S1x64_S1x64_0_0).toLoadRect (harg9.unread x8)) = x8 := by rw [View.readAt_eq_ld, harg9.read_unread, View.ld_unit_zero (S := S1x64) hz]
  have r10 : (View.readAt (Elt Ideal) arg10.view (Rect.unit (s := S1x64) ![0, 0] S1x64.size inb_S1x64_S1x64_0_0).toLoadRect (harg10.unread x9)) = x9 := by rw [View.readAt_eq_ld, harg10.read_unread, View.ld_unit_zero (S := S1x64) hz]
  have r11 : (View.readAt (Elt Ideal) arg11.view (Rect.unit (s := S1x64) ![0, 0] S1x64.size inb_S1x64_S1x64_0_0).toLoadRect (harg11.unread x10)) = x10 := by rw [View.readAt_eq_ld, harg11.read_unread, View.ld_unit_zero (S := S1x64) hz]
  have r12 : (View.readAt (Elt Ideal) arg12.view (Rect.unit (s := S1x64) ![0, 0] S1x64.size inb_S1x64_S1x64_0_0).toLoadRect (harg12.unread x11)) = x11 := by rw [View.readAt_eq_ld, harg12.read_unread, View.ld_unit_zero (S := S1x64) hz]
  have r13 : (View.readAt (Elt Ideal) arg13.view (Rect.unit (s := S1x16) ![0, 0] S1x16.size inb_S1x16_S1x16_0_0).toLoadRect (harg13.unread x12)) = x12 := by rw [View.readAt_eq_ld, harg13.read_unread, View.ld_unit_zero (S := S1x16) hz]
  have r14 : (View.readAt (Elt Ideal) arg14.view (Rect.unit (s := S1x16) ![0, 0] S1x16.size inb_S1x16_S1x16_0_0).toLoadRect (harg14.unread x13)) = x13 := by rw [View.readAt_eq_ld, harg14.read_unread, View.ld_unit_zero (S := S1x16) hz]
  have r15 : (View.readAt (Elt Ideal) arg15.view (Rect.unit (s := S1x16) ![0, 0] S1x16.size inb_S1x16_S1x16_0_0).toLoadRect (harg15.unread x14)) = x14 := by rw [View.readAt_eq_ld, harg15.read_unread, View.ld_unit_zero (S := S1x16) hz]
  have h0 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) = (lay x2 x1 x12 x6 x9 x3 x0) := by rw [r1, r2, r3, r4, r7, r10, r13]
  have h1 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) = (lay x2 x1 x13 x7 x10 x4 (lay x2 x1 x12 x6 x9 x3 x0)) := by rw [h0, r2, r3, r5, r8, r11, r14]
  have h2 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) = (lay x2 x1 x14 x8 x11 x5 (lay x2 x1 x13 x7 x10 x4 (lay x2 x1 x12 x6 x9 x3 x0))) := by rw [h1, r2, r3, r6, r9, r12, r15]
  unfold sout0_A_0
  unfold kernelRun0_A
  dsimp only
  refine Eq.trans ?_ (step_congr h0 h1 h2 rfl rfl rfl)
  exact rows_after VS0_0 arg18.view VS0_0.junk inb_S3x64_S1x64_0_0 inb_S3x64_S1x64_1_0 inb_S3x64_S1x64_2_0 _ (k0_pay2 (F := Ideal)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) inb_S3x64_S3x64_0_0

/-- At a later point the rows go on from the point before. -/
theorem sout_B (c : Dev nD) (i : grid0.Coords) (arg1 : Memref sig .tc .vmem S200x50x64 .f32) (harg1 : arg1.IsWhole) (arg2 : Memref sig .tc .vmem S200x3200 .f32) (harg2 : arg2.IsWhole) (arg3 : Memref sig .tc .vmem S2x200 .i32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S1x16 .f32) (harg15 : arg15.IsWhole) (arg16 : Memref sig .tc .vmem S192x16 .f32) (harg16 : arg16.IsWhole) (arg17 : Memref sig .tc .vmem S1x16 .f32) (harg17 : arg17.IsWhole) (arg18 : Memref sig .tc .vmem S3x64 .f32) (harg18 : arg18.IsWhole) (hc0 : ¬cond0_0 i) (hc1 : ¬cond0_1 i)
    (x0 : Vec Ideal S200x50x64 .f32) (x1 : Vec Ideal S200x3200 .f32) (x2 : Vec Ideal S2x200 .i32) (x3 : Vec Ideal S64x64 .f32) (x4 : Vec Ideal S64x64 .f32) (x5 : Vec Ideal S64x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x16 .f32) (x13 : Vec Ideal S1x16 .f32) (x14 : Vec Ideal S1x16 .f32) (x15 : Vec Ideal S192x16 .f32) (xs0 : Vec Ideal S3x64 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0 = step x0 x1 x2 x3 x4 x5 x6 x7 x8 x9 x10 x11 x12 x13 x14 xs0 := by
  have r1 : (View.readAt (Elt Ideal) arg1.view (Rect.unit (s := S200x50x64) ![0, 0, 0] S200x50x64.size inb_S200x50x64_S200x50x64_0_0_0).toLoadRect (harg1.unread x0)) = x0 := by rw [View.readAt_eq_ld, harg1.read_unread, View.ld_unit_zero (S := S200x50x64) hz3]
  have r2 : (View.readAt (Elt Ideal) arg2.view (Rect.unit (s := S200x3200) ![0, 0] S200x3200.size inb_S200x3200_S200x3200_0_0).toLoadRect (harg2.unread x1)) = x1 := by rw [View.readAt_eq_ld, harg2.read_unread, View.ld_unit_zero (S := S200x3200) hz]
  have r3 : (View.readAt (Elt Ideal) arg3.view (Rect.unit (s := S2x200) ![0, 0] S2x200.size inb_S2x200_S2x200_0_0).toLoadRect (harg3.unread x2)) = x2 := by rw [View.readAt_eq_ld, harg3.read_unread, View.ld_unit_zero (S := S2x200) hz]
  have r4 : (View.readAt (Elt Ideal) arg4.view (Rect.unit (s := S64x64) ![0, 0] S64x64.size inb_S64x64_S64x64_0_0).toLoadRect (harg4.unread x3)) = x3 := by rw [View.readAt_eq_ld, harg4.read_unread, View.ld_unit_zero (S := S64x64) hz]
  have r5 : (View.readAt (Elt Ideal) arg5.view (Rect.unit (s := S64x64) ![0, 0] S64x64.size inb_S64x64_S64x64_0_0).toLoadRect (harg5.unread x4)) = x4 := by rw [View.readAt_eq_ld, harg5.read_unread, View.ld_unit_zero (S := S64x64) hz]
  have r6 : (View.readAt (Elt Ideal) arg6.view (Rect.unit (s := S64x64) ![0, 0] S64x64.size inb_S64x64_S64x64_0_0).toLoadRect (harg6.unread x5)) = x5 := by rw [View.readAt_eq_ld, harg6.read_unread, View.ld_unit_zero (S := S64x64) hz]
  have r7 : (View.readAt (Elt Ideal) arg7.view (Rect.unit (s := S1x64) ![0, 0] S1x64.size inb_S1x64_S1x64_0_0).toLoadRect (harg7.unread x6)) = x6 := by rw [View.readAt_eq_ld, harg7.read_unread, View.ld_unit_zero (S := S1x64) hz]
  have r8 : (View.readAt (Elt Ideal) arg8.view (Rect.unit (s := S1x64) ![0, 0] S1x64.size inb_S1x64_S1x64_0_0).toLoadRect (harg8.unread x7)) = x7 := by rw [View.readAt_eq_ld, harg8.read_unread, View.ld_unit_zero (S := S1x64) hz]
  have r9 : (View.readAt (Elt Ideal) arg9.view (Rect.unit (s := S1x64) ![0, 0] S1x64.size inb_S1x64_S1x64_0_0).toLoadRect (harg9.unread x8)) = x8 := by rw [View.readAt_eq_ld, harg9.read_unread, View.ld_unit_zero (S := S1x64) hz]
  have r10 : (View.readAt (Elt Ideal) arg10.view (Rect.unit (s := S1x64) ![0, 0] S1x64.size inb_S1x64_S1x64_0_0).toLoadRect (harg10.unread x9)) = x9 := by rw [View.readAt_eq_ld, harg10.read_unread, View.ld_unit_zero (S := S1x64) hz]
  have r11 : (View.readAt (Elt Ideal) arg11.view (Rect.unit (s := S1x64) ![0, 0] S1x64.size inb_S1x64_S1x64_0_0).toLoadRect (harg11.unread x10)) = x10 := by rw [View.readAt_eq_ld, harg11.read_unread, View.ld_unit_zero (S := S1x64) hz]
  have r12 : (View.readAt (Elt Ideal) arg12.view (Rect.unit (s := S1x64) ![0, 0] S1x64.size inb_S1x64_S1x64_0_0).toLoadRect (harg12.unread x11)) = x11 := by rw [View.readAt_eq_ld, harg12.read_unread, View.ld_unit_zero (S := S1x64) hz]
  have r13 : (View.readAt (Elt Ideal) arg13.view (Rect.unit (s := S1x16) ![0, 0] S1x16.size inb_S1x16_S1x16_0_0).toLoadRect (harg13.unread x12)) = x12 := by rw [View.readAt_eq_ld, harg13.read_unread, View.ld_unit_zero (S := S1x16) hz]
  have r14 : (View.readAt (Elt Ideal) arg14.view (Rect.unit (s := S1x16) ![0, 0] S1x16.size inb_S1x16_S1x16_0_0).toLoadRect (harg14.unread x13)) = x13 := by rw [View.readAt_eq_ld, harg14.read_unread, View.ld_unit_zero (S := S1x16) hz]
  have r15 : (View.readAt (Elt Ideal) arg15.view (Rect.unit (s := S1x16) ![0, 0] S1x16.size inb_S1x16_S1x16_0_0).toLoadRect (harg15.unread x14)) = x14 := by rw [View.readAt_eq_ld, harg15.read_unread, View.ld_unit_zero (S := S1x16) hz]
  have h0 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) = (lay x2 x1 x12 x6 x9 x3 x0) := by rw [r1, r2, r3, r4, r7, r10, r13]
  have h1 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) = (lay x2 x1 x13 x7 x10 x4 (lay x2 x1 x12 x6 x9 x3 x0)) := by rw [h0, r2, r3, r5, r8, r11, r14]
  have h2 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) = (lay x2 x1 x14 x8 x11 x5 (lay x2 x1 x13 x7 x10 x4 (lay x2 x1 x12 x6 x9 x3 x0))) := by rw [h1, r2, r3, r6, r9, r12, r15]
  have e0 : (View.readAt (Elt Ideal) arg18.view (Rect.unit (s := S3x64) ![0, 0] S1x64.size inb_S3x64_S1x64_0_0).toLoadRect (harg18.unread xs0)) = row xs0 0 := by rw [View.readAt_eq_ld, harg18.read_unread]; exact ld_row0 _ xs0
  have e1 : (View.readAt (Elt Ideal) arg18.view (Rect.unit (s := S3x64) ![1, 0] S1x64.size inb_S3x64_S1x64_1_0).toLoadRect (harg18.unread xs0)) = row xs0 1 := by rw [View.readAt_eq_ld, harg18.read_unread]; exact ld_row1 _ xs0
  have e2 : (View.readAt (Elt Ideal) arg18.view (Rect.unit (s := S3x64) ![2, 0] S1x64.size inb_S3x64_S1x64_2_0).toLoadRect (harg18.unread xs0)) = row xs0 2 := by rw [View.readAt_eq_ld, harg18.read_unread]; exact ld_row2 _ xs0
  unfold sout0_B_0
  unfold kernelRun0_B
  dsimp only
  refine Eq.trans ?_ (step_congr h0 h1 h2 e0 e1 e2)
  exact rows_read VS0_0 VS0_0.junk (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) (View.readAt (Elt Ideal) arg18.view (Rect.unit (s := S3x64) ![0, 0] S1x64.size inb_S3x64_S1x64_0_0).toLoadRect (harg18.unread xs0))) (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) (View.readAt (Elt Ideal) arg18.view (Rect.unit (s := S3x64) ![1, 0] S1x64.size inb_S3x64_S1x64_1_0).toLoadRect (harg18.unread xs0))) (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) (View.readAt (Elt Ideal) arg18.view (Rect.unit (s := S3x64) ![2, 0] S1x64.size inb_S3x64_S1x64_2_0).toLoadRect (harg18.unread xs0))) inb_S3x64_S1x64_0_0 inb_S3x64_S1x64_1_0 inb_S3x64_S1x64_2_0 []

/-- At a later point the rows go on from the point before. -/
theorem sout_C (c : Dev nD) (i : grid0.Coords) (arg1 : Memref sig .tc .vmem S200x50x64 .f32) (harg1 : arg1.IsWhole) (arg2 : Memref sig .tc .vmem S200x3200 .f32) (harg2 : arg2.IsWhole) (arg3 : Memref sig .tc .vmem S2x200 .i32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S1x16 .f32) (harg15 : arg15.IsWhole) (arg16 : Memref sig .tc .vmem S192x16 .f32) (harg16 : arg16.IsWhole) (arg17 : Memref sig .tc .vmem S1x16 .f32) (harg17 : arg17.IsWhole) (arg18 : Memref sig .tc .vmem S3x64 .f32) (harg18 : arg18.IsWhole) (hc0 : ¬cond0_0 i) (hc1 : cond0_1 i)
    (x0 : Vec Ideal S200x50x64 .f32) (x1 : Vec Ideal S200x3200 .f32) (x2 : Vec Ideal S2x200 .i32) (x3 : Vec Ideal S64x64 .f32) (x4 : Vec Ideal S64x64 .f32) (x5 : Vec Ideal S64x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x16 .f32) (x13 : Vec Ideal S1x16 .f32) (x14 : Vec Ideal S1x16 .f32) (x15 : Vec Ideal S192x16 .f32) (xs0 : Vec Ideal S3x64 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0 = step x0 x1 x2 x3 x4 x5 x6 x7 x8 x9 x10 x11 x12 x13 x14 xs0 := by
  have r1 : (View.readAt (Elt Ideal) arg1.view (Rect.unit (s := S200x50x64) ![0, 0, 0] S200x50x64.size inb_S200x50x64_S200x50x64_0_0_0).toLoadRect (harg1.unread x0)) = x0 := by rw [View.readAt_eq_ld, harg1.read_unread, View.ld_unit_zero (S := S200x50x64) hz3]
  have r2 : (View.readAt (Elt Ideal) arg2.view (Rect.unit (s := S200x3200) ![0, 0] S200x3200.size inb_S200x3200_S200x3200_0_0).toLoadRect (harg2.unread x1)) = x1 := by rw [View.readAt_eq_ld, harg2.read_unread, View.ld_unit_zero (S := S200x3200) hz]
  have r3 : (View.readAt (Elt Ideal) arg3.view (Rect.unit (s := S2x200) ![0, 0] S2x200.size inb_S2x200_S2x200_0_0).toLoadRect (harg3.unread x2)) = x2 := by rw [View.readAt_eq_ld, harg3.read_unread, View.ld_unit_zero (S := S2x200) hz]
  have r4 : (View.readAt (Elt Ideal) arg4.view (Rect.unit (s := S64x64) ![0, 0] S64x64.size inb_S64x64_S64x64_0_0).toLoadRect (harg4.unread x3)) = x3 := by rw [View.readAt_eq_ld, harg4.read_unread, View.ld_unit_zero (S := S64x64) hz]
  have r5 : (View.readAt (Elt Ideal) arg5.view (Rect.unit (s := S64x64) ![0, 0] S64x64.size inb_S64x64_S64x64_0_0).toLoadRect (harg5.unread x4)) = x4 := by rw [View.readAt_eq_ld, harg5.read_unread, View.ld_unit_zero (S := S64x64) hz]
  have r6 : (View.readAt (Elt Ideal) arg6.view (Rect.unit (s := S64x64) ![0, 0] S64x64.size inb_S64x64_S64x64_0_0).toLoadRect (harg6.unread x5)) = x5 := by rw [View.readAt_eq_ld, harg6.read_unread, View.ld_unit_zero (S := S64x64) hz]
  have r7 : (View.readAt (Elt Ideal) arg7.view (Rect.unit (s := S1x64) ![0, 0] S1x64.size inb_S1x64_S1x64_0_0).toLoadRect (harg7.unread x6)) = x6 := by rw [View.readAt_eq_ld, harg7.read_unread, View.ld_unit_zero (S := S1x64) hz]
  have r8 : (View.readAt (Elt Ideal) arg8.view (Rect.unit (s := S1x64) ![0, 0] S1x64.size inb_S1x64_S1x64_0_0).toLoadRect (harg8.unread x7)) = x7 := by rw [View.readAt_eq_ld, harg8.read_unread, View.ld_unit_zero (S := S1x64) hz]
  have r9 : (View.readAt (Elt Ideal) arg9.view (Rect.unit (s := S1x64) ![0, 0] S1x64.size inb_S1x64_S1x64_0_0).toLoadRect (harg9.unread x8)) = x8 := by rw [View.readAt_eq_ld, harg9.read_unread, View.ld_unit_zero (S := S1x64) hz]
  have r10 : (View.readAt (Elt Ideal) arg10.view (Rect.unit (s := S1x64) ![0, 0] S1x64.size inb_S1x64_S1x64_0_0).toLoadRect (harg10.unread x9)) = x9 := by rw [View.readAt_eq_ld, harg10.read_unread, View.ld_unit_zero (S := S1x64) hz]
  have r11 : (View.readAt (Elt Ideal) arg11.view (Rect.unit (s := S1x64) ![0, 0] S1x64.size inb_S1x64_S1x64_0_0).toLoadRect (harg11.unread x10)) = x10 := by rw [View.readAt_eq_ld, harg11.read_unread, View.ld_unit_zero (S := S1x64) hz]
  have r12 : (View.readAt (Elt Ideal) arg12.view (Rect.unit (s := S1x64) ![0, 0] S1x64.size inb_S1x64_S1x64_0_0).toLoadRect (harg12.unread x11)) = x11 := by rw [View.readAt_eq_ld, harg12.read_unread, View.ld_unit_zero (S := S1x64) hz]
  have r13 : (View.readAt (Elt Ideal) arg13.view (Rect.unit (s := S1x16) ![0, 0] S1x16.size inb_S1x16_S1x16_0_0).toLoadRect (harg13.unread x12)) = x12 := by rw [View.readAt_eq_ld, harg13.read_unread, View.ld_unit_zero (S := S1x16) hz]
  have r14 : (View.readAt (Elt Ideal) arg14.view (Rect.unit (s := S1x16) ![0, 0] S1x16.size inb_S1x16_S1x16_0_0).toLoadRect (harg14.unread x13)) = x13 := by rw [View.readAt_eq_ld, harg14.read_unread, View.ld_unit_zero (S := S1x16) hz]
  have r15 : (View.readAt (Elt Ideal) arg15.view (Rect.unit (s := S1x16) ![0, 0] S1x16.size inb_S1x16_S1x16_0_0).toLoadRect (harg15.unread x14)) = x14 := by rw [View.readAt_eq_ld, harg15.read_unread, View.ld_unit_zero (S := S1x16) hz]
  have h0 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) = (lay x2 x1 x12 x6 x9 x3 x0) := by rw [r1, r2, r3, r4, r7, r10, r13]
  have h1 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) = (lay x2 x1 x13 x7 x10 x4 (lay x2 x1 x12 x6 x9 x3 x0)) := by rw [h0, r2, r3, r5, r8, r11, r14]
  have h2 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) = (lay x2 x1 x14 x8 x11 x5 (lay x2 x1 x13 x7 x10 x4 (lay x2 x1 x12 x6 x9 x3 x0))) := by rw [h1, r2, r3, r6, r9, r12, r15]
  have e0 : (View.readAt (Elt Ideal) arg18.view (Rect.unit (s := S3x64) ![0, 0] S1x64.size inb_S3x64_S1x64_0_0).toLoadRect (harg18.unread xs0)) = row xs0 0 := by rw [View.readAt_eq_ld, harg18.read_unread]; exact ld_row0 _ xs0
  have e1 : (View.readAt (Elt Ideal) arg18.view (Rect.unit (s := S3x64) ![1, 0] S1x64.size inb_S3x64_S1x64_1_0).toLoadRect (harg18.unread xs0)) = row xs0 1 := by rw [View.readAt_eq_ld, harg18.read_unread]; exact ld_row1 _ xs0
  have e2 : (View.readAt (Elt Ideal) arg18.view (Rect.unit (s := S3x64) ![2, 0] S1x64.size inb_S3x64_S1x64_2_0).toLoadRect (harg18.unread xs0)) = row xs0 2 := by rw [View.readAt_eq_ld, harg18.read_unread]; exact ld_row2 _ xs0
  unfold sout0_C_0
  unfold kernelRun0_C
  dsimp only
  refine Eq.trans ?_ (step_congr h0 h1 h2 e0 e1 e2)
  exact rows_read VS0_0 VS0_0.junk (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) (View.readAt (Elt Ideal) arg18.view (Rect.unit (s := S3x64) ![0, 0] S1x64.size inb_S3x64_S1x64_0_0).toLoadRect (harg18.unread xs0))) (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) (View.readAt (Elt Ideal) arg18.view (Rect.unit (s := S3x64) ![1, 0] S1x64.size inb_S3x64_S1x64_1_0).toLoadRect (harg18.unread xs0))) (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) (View.readAt (Elt Ideal) arg18.view (Rect.unit (s := S3x64) ![2, 0] S1x64.size inb_S3x64_S1x64_2_0).toLoadRect (harg18.unread xs0))) inb_S3x64_S1x64_0_0 inb_S3x64_S1x64_1_0 inb_S3x64_S1x64_2_0 []

/-- At the last point the result is the rows after it, scaled and classified. -/
theorem out_C (c : Dev nD) (i : grid0.Coords) (arg1 : Memref sig .tc .vmem S200x50x64 .f32) (harg1 : arg1.IsWhole) (arg2 : Memref sig .tc .vmem S200x3200 .f32) (harg2 : arg2.IsWhole) (arg3 : Memref sig .tc .vmem S2x200 .i32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S1x64 .f32) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .vmem S1x16 .f32) (harg13 : arg13.IsWhole) (arg14 : Memref sig .tc .vmem S1x16 .f32) (harg14 : arg14.IsWhole) (arg15 : Memref sig .tc .vmem S1x16 .f32) (harg15 : arg15.IsWhole) (arg16 : Memref sig .tc .vmem S192x16 .f32) (harg16 : arg16.IsWhole) (arg17 : Memref sig .tc .vmem S1x16 .f32) (harg17 : arg17.IsWhole) (arg18 : Memref sig .tc .vmem S3x64 .f32) (harg18 : arg18.IsWhole) (hc0 : ¬cond0_0 i) (hc1 : cond0_1 i)
    (x0 : Vec Ideal S200x50x64 .f32) (x1 : Vec Ideal S200x3200 .f32) (x2 : Vec Ideal S2x200 .i32) (x3 : Vec Ideal S64x64 .f32) (x4 : Vec Ideal S64x64 .f32) (x5 : Vec Ideal S64x64 .f32) (x6 : Vec Ideal S1x64 .f32) (x7 : Vec Ideal S1x64 .f32) (x8 : Vec Ideal S1x64 .f32) (x9 : Vec Ideal S1x64 .f32) (x10 : Vec Ideal S1x64 .f32) (x11 : Vec Ideal S1x64 .f32) (x12 : Vec Ideal S1x16 .f32) (x13 : Vec Ideal S1x16 .f32) (x14 : Vec Ideal S1x16 .f32) (x15 : Vec Ideal S192x16 .f32) (xs0 : Vec Ideal S3x64 .f32) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0 = k0_pay1 (F := Ideal) (step x0 x1 x2 x3 x4 x5 x6 x7 x8 x9 x10 x11 x12 x13 x14 xs0) (cls x15 0) (cls x15 1) (cls x15 2) := by
  have r1 : (View.readAt (Elt Ideal) arg1.view (Rect.unit (s := S200x50x64) ![0, 0, 0] S200x50x64.size inb_S200x50x64_S200x50x64_0_0_0).toLoadRect (harg1.unread x0)) = x0 := by rw [View.readAt_eq_ld, harg1.read_unread, View.ld_unit_zero (S := S200x50x64) hz3]
  have r2 : (View.readAt (Elt Ideal) arg2.view (Rect.unit (s := S200x3200) ![0, 0] S200x3200.size inb_S200x3200_S200x3200_0_0).toLoadRect (harg2.unread x1)) = x1 := by rw [View.readAt_eq_ld, harg2.read_unread, View.ld_unit_zero (S := S200x3200) hz]
  have r3 : (View.readAt (Elt Ideal) arg3.view (Rect.unit (s := S2x200) ![0, 0] S2x200.size inb_S2x200_S2x200_0_0).toLoadRect (harg3.unread x2)) = x2 := by rw [View.readAt_eq_ld, harg3.read_unread, View.ld_unit_zero (S := S2x200) hz]
  have r4 : (View.readAt (Elt Ideal) arg4.view (Rect.unit (s := S64x64) ![0, 0] S64x64.size inb_S64x64_S64x64_0_0).toLoadRect (harg4.unread x3)) = x3 := by rw [View.readAt_eq_ld, harg4.read_unread, View.ld_unit_zero (S := S64x64) hz]
  have r5 : (View.readAt (Elt Ideal) arg5.view (Rect.unit (s := S64x64) ![0, 0] S64x64.size inb_S64x64_S64x64_0_0).toLoadRect (harg5.unread x4)) = x4 := by rw [View.readAt_eq_ld, harg5.read_unread, View.ld_unit_zero (S := S64x64) hz]
  have r6 : (View.readAt (Elt Ideal) arg6.view (Rect.unit (s := S64x64) ![0, 0] S64x64.size inb_S64x64_S64x64_0_0).toLoadRect (harg6.unread x5)) = x5 := by rw [View.readAt_eq_ld, harg6.read_unread, View.ld_unit_zero (S := S64x64) hz]
  have r7 : (View.readAt (Elt Ideal) arg7.view (Rect.unit (s := S1x64) ![0, 0] S1x64.size inb_S1x64_S1x64_0_0).toLoadRect (harg7.unread x6)) = x6 := by rw [View.readAt_eq_ld, harg7.read_unread, View.ld_unit_zero (S := S1x64) hz]
  have r8 : (View.readAt (Elt Ideal) arg8.view (Rect.unit (s := S1x64) ![0, 0] S1x64.size inb_S1x64_S1x64_0_0).toLoadRect (harg8.unread x7)) = x7 := by rw [View.readAt_eq_ld, harg8.read_unread, View.ld_unit_zero (S := S1x64) hz]
  have r9 : (View.readAt (Elt Ideal) arg9.view (Rect.unit (s := S1x64) ![0, 0] S1x64.size inb_S1x64_S1x64_0_0).toLoadRect (harg9.unread x8)) = x8 := by rw [View.readAt_eq_ld, harg9.read_unread, View.ld_unit_zero (S := S1x64) hz]
  have r10 : (View.readAt (Elt Ideal) arg10.view (Rect.unit (s := S1x64) ![0, 0] S1x64.size inb_S1x64_S1x64_0_0).toLoadRect (harg10.unread x9)) = x9 := by rw [View.readAt_eq_ld, harg10.read_unread, View.ld_unit_zero (S := S1x64) hz]
  have r11 : (View.readAt (Elt Ideal) arg11.view (Rect.unit (s := S1x64) ![0, 0] S1x64.size inb_S1x64_S1x64_0_0).toLoadRect (harg11.unread x10)) = x10 := by rw [View.readAt_eq_ld, harg11.read_unread, View.ld_unit_zero (S := S1x64) hz]
  have r12 : (View.readAt (Elt Ideal) arg12.view (Rect.unit (s := S1x64) ![0, 0] S1x64.size inb_S1x64_S1x64_0_0).toLoadRect (harg12.unread x11)) = x11 := by rw [View.readAt_eq_ld, harg12.read_unread, View.ld_unit_zero (S := S1x64) hz]
  have r13 : (View.readAt (Elt Ideal) arg13.view (Rect.unit (s := S1x16) ![0, 0] S1x16.size inb_S1x16_S1x16_0_0).toLoadRect (harg13.unread x12)) = x12 := by rw [View.readAt_eq_ld, harg13.read_unread, View.ld_unit_zero (S := S1x16) hz]
  have r14 : (View.readAt (Elt Ideal) arg14.view (Rect.unit (s := S1x16) ![0, 0] S1x16.size inb_S1x16_S1x16_0_0).toLoadRect (harg14.unread x13)) = x13 := by rw [View.readAt_eq_ld, harg14.read_unread, View.ld_unit_zero (S := S1x16) hz]
  have r15 : (View.readAt (Elt Ideal) arg15.view (Rect.unit (s := S1x16) ![0, 0] S1x16.size inb_S1x16_S1x16_0_0).toLoadRect (harg15.unread x14)) = x14 := by rw [View.readAt_eq_ld, harg15.read_unread, View.ld_unit_zero (S := S1x16) hz]
  have h0 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) = (lay x2 x1 x12 x6 x9 x3 x0) := by rw [r1, r2, r3, r4, r7, r10, r13]
  have h1 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) = (lay x2 x1 x13 x7 x10 x4 (lay x2 x1 x12 x6 x9 x3 x0)) := by rw [h0, r2, r3, r5, r8, r11, r14]
  have h2 : (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) = (lay x2 x1 x14 x8 x11 x5 (lay x2 x1 x13 x7 x10 x4 (lay x2 x1 x12 x6 x9 x3 x0))) := by rw [h1, r2, r3, r6, r9, r12, r15]
  have e0 : (View.readAt (Elt Ideal) arg18.view (Rect.unit (s := S3x64) ![0, 0] S1x64.size inb_S3x64_S1x64_0_0).toLoadRect (harg18.unread xs0)) = row xs0 0 := by rw [View.readAt_eq_ld, harg18.read_unread]; exact ld_row0 _ xs0
  have e1 : (View.readAt (Elt Ideal) arg18.view (Rect.unit (s := S3x64) ![1, 0] S1x64.size inb_S3x64_S1x64_1_0).toLoadRect (harg18.unread xs0)) = row xs0 1 := by rw [View.readAt_eq_ld, harg18.read_unread]; exact ld_row1 _ xs0
  have e2 : (View.readAt (Elt Ideal) arg18.view (Rect.unit (s := S3x64) ![2, 0] S1x64.size inb_S3x64_S1x64_2_0).toLoadRect (harg18.unread xs0)) = row xs0 2 := by rw [View.readAt_eq_ld, harg18.read_unread]; exact ld_row2 _ xs0
  have q : ∀ {S S' : Vec Ideal S3x64 .f32} {a a' b b' c c' : Vec Ideal S64x16 .f32}, S = S' → a = a' → b = b' → c = c' →
      k0_pay1 (F := Ideal) S a b c = k0_pay1 (F := Ideal) S' a' b' c' := by intros; subst_vars; rfl
  have c0 : (View.readAt (Elt Ideal) arg16.view (Rect.unit (s := S192x16) ![0, 0] S64x16.size inb_S192x16_S64x16_0_0).toLoadRect (harg16.unread x15)) = cls x15 0 := by rw [View.readAt_eq_ld, harg16.read_unread]; exact ld_cls x15 0 rfl _
  have c1 : (View.readAt (Elt Ideal) arg16.view (Rect.unit (s := S192x16) ![64, 0] S64x16.size inb_S192x16_S64x16_64_0).toLoadRect (harg16.unread x15)) = cls x15 1 := by rw [View.readAt_eq_ld, harg16.read_unread]; exact ld_cls x15 1 rfl _
  have c2 : (View.readAt (Elt Ideal) arg16.view (Rect.unit (s := S192x16) ![128, 0] S64x16.size inb_S192x16_S64x16_128_0).toLoadRect (harg16.unread x15)) = cls x15 2 := by rw [View.readAt_eq_ld, harg16.read_unread]; exact ld_cls x15 2 rfl _
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0)]
  unfold kernelRun0_C
  dsimp only
  rw [View.canon_unit_zero (S := S1x16) hz]
  refine q ((cov_all arg18.view (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))) (View.readAt (Elt Ideal) arg18.view (Rect.unit (s := S3x64) ![0, 0] S1x64.size inb_S3x64_S1x64_0_0).toLoadRect (harg18.unread xs0))) (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0)))) (View.readAt (Elt Ideal) arg18.view (Rect.unit (s := S3x64) ![1, 0] S1x64.size inb_S3x64_S1x64_1_0).toLoadRect (harg18.unread xs0))) (rowSum (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg15.view (Rect.unit (s := S1x16) ![0, 0] S1x16.size inb_S1x16_S1x16_0_0).toLoadRect (harg15.unread x14)) (View.readAt (Elt Ideal) arg9.view (Rect.unit (s := S1x64) ![0, 0] S1x64.size inb_S1x64_S1x64_0_0).toLoadRect (harg9.unread x8)) (View.readAt (Elt Ideal) arg12.view (Rect.unit (s := S1x64) ![0, 0] S1x64.size inb_S1x64_S1x64_0_0).toLoadRect (harg12.unread x11)) (View.readAt (Elt Ideal) arg6.view (Rect.unit (s := S64x64) ![0, 0] S64x64.size inb_S64x64_S64x64_0_0).toLoadRect (harg6.unread x5)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg14.view (Rect.unit (s := S1x16) ![0, 0] S1x16.size inb_S1x16_S1x16_0_0).toLoadRect (harg14.unread x13)) (View.readAt (Elt Ideal) arg8.view (Rect.unit (s := S1x64) ![0, 0] S1x64.size inb_S1x64_S1x64_0_0).toLoadRect (harg8.unread x7)) (View.readAt (Elt Ideal) arg11.view (Rect.unit (s := S1x64) ![0, 0] S1x64.size inb_S1x64_S1x64_0_0).toLoadRect (harg11.unread x10)) (View.readAt (Elt Ideal) arg5.view (Rect.unit (s := S64x64) ![0, 0] S64x64.size inb_S64x64_S64x64_0_0).toLoadRect (harg5.unread x4)) (lay (View.readAt (Elt Ideal) arg3.view (Rect.unit (s := S2x200) ![0, 0] S2x200.size inb_S2x200_S2x200_0_0).toLoadRect (harg3.unread x2)) (View.readAt (Elt Ideal) arg2.view (Rect.unit (s := S200x3200) ![0, 0] S200x3200.size inb_S200x3200_S200x3200_0_0).toLoadRect (harg2.unread x1)) (View.readAt (Elt Ideal) arg13.view (Rect.unit (s := S1x16) ![0, 0] S1x16.size inb_S1x16_S1x16_0_0).toLoadRect (harg13.unread x12)) (View.readAt (Elt Ideal) arg7.view (Rect.unit (s := S1x64) ![0, 0] S1x64.size inb_S1x64_S1x64_0_0).toLoadRect (harg7.unread x6)) (View.readAt (Elt Ideal) arg10.view (Rect.unit (s := S1x64) ![0, 0] S1x64.size inb_S1x64_S1x64_0_0).toLoadRect (harg10.unread x9)) (View.readAt (Elt Ideal) arg4.view (Rect.unit (s := S64x64) ![0, 0] S64x64.size inb_S64x64_S64x64_0_0).toLoadRect (harg4.unread x3)) (View.readAt (Elt Ideal) arg1.view (Rect.unit (s := S200x50x64) ![0, 0, 0] S200x50x64.size inb_S200x50x64_S200x50x64_0_0_0).toLoadRect (harg1.unread x0))))) (View.readAt (Elt Ideal) arg18.view (Rect.unit (s := S3x64) ![2, 0] S1x64.size inb_S3x64_S1x64_2_0).toLoadRect (harg18.unread xs0))) inb_S3x64_S1x64_0_0 inb_S3x64_S1x64_1_0 inb_S3x64_S1x64_2_0 [] inb_S3x64_S3x64_0_0).trans
    (step_congr h0 h1 h2 e0 e1 e2)) c0 c1 c2

end Cert.Proof.K

end
-- ==== Proof.KBlock.lean ====
/-
  The blocks of the arguments that a grid point of the kernel reads, in terms of the arguments as launched.
-/
module

public import proofs.«01_k».proof.Proof.Gen.KernelIdeal.Value
public import Idealize.ShloMosaic.Lib.Pointwise
public import Idealize.ShloMosaic.Lib.StableHlo.RunRead
public import Idealize.ShloMosaic.Lib.Pipeline.Value

@[expose] public section

set_option maxRecDepth 16384

noncomputable section

open Idealize.ShloMosaic Idealize.ShloMosaic.TcCoe Idealize.SL.Sem
open Cert.KernelIdeal Cert.KernelIdeal.Gen

namespace Cert.Proof.K

variable (m : (ℓ : Loc nD τ sig) → Buf (Elt Ideal) ℓ) (c : Dev nD)

theorem V_main_call0_v0 : V m c main_call0_v0 = shapeCast S4000x3200 (m ((c : Thread nD τ).loc main_arg2)) shapeCasts_S4000x200x16_S4000x3200 := by
  unfold V; after_reads_simp; rfl

theorem V_main_call0_v1 : V m c main_call0_v1 = shapeCast S1x64 (m ((c : Thread nD τ).loc main_arg6)) shapeCasts_S64_S1x64 := by
  unfold V; after_reads_simp; rfl

theorem V_main_call0_v2 : V m c main_call0_v2 = shapeCast S1x64 (m ((c : Thread nD τ).loc main_arg7)) shapeCasts_S64_S1x64 := by
  unfold V; after_reads_simp; rfl

theorem V_main_call0_v3 : V m c main_call0_v3 = shapeCast S1x64 (m ((c : Thread nD τ).loc main_arg8)) shapeCasts_S64_S1x64 := by
  unfold V; after_reads_simp; rfl

theorem V_main_call0_v4 : V m c main_call0_v4 = shapeCast S1x64 (m ((c : Thread nD τ).loc main_arg9)) shapeCasts_S64_S1x64 := by
  unfold V; after_reads_simp; rfl

theorem V_main_call0_v5 : V m c main_call0_v5 = shapeCast S1x64 (m ((c : Thread nD τ).loc main_arg10)) shapeCasts_S64_S1x64 := by
  unfold V; after_reads_simp; rfl

theorem V_main_call0_v6 : V m c main_call0_v6 = shapeCast S1x64 (m ((c : Thread nD τ).loc main_arg11)) shapeCasts_S64_S1x64 := by
  unfold V; after_reads_simp; rfl

theorem V_main_call0_v7 : V m c main_call0_v7 = shapeCast S1x16 (m ((c : Thread nD τ).loc main_arg12)) shapeCasts_S16_S1x16 := by
  unfold V; after_reads_simp; rfl

theorem V_main_call0_v8 : V m c main_call0_v8 = shapeCast S1x16 (m ((c : Thread nD τ).loc main_arg13)) shapeCasts_S16_S1x16 := by
  unfold V; after_reads_simp; rfl

theorem V_main_call0_v9 : V m c main_call0_v9 = shapeCast S1x16 (m ((c : Thread nD τ).loc main_arg14)) shapeCasts_S16_S1x16 := by
  unfold V; after_reads_simp; rfl

/-- The block the moving windows read at a point is the point's own. -/
theorem idx0 : ∀ t : Fin cfg0.N, win0_0.index t 0 = t.val ∧ win0_0.index t 1 = 0 ∧ win0_0.index t 2 = 0 := by decide +kernel
theorem idx1 : ∀ t : Fin cfg0.N, win0_1.index t 0 = t.val ∧ win0_1.index t 1 = 0 := by decide +kernel

/-- Point `t`'s block of patches. -/
def pat (t : Fin cfg0.N) (p : Fin 200) : Fin 4000 := ⟨200 * t.val + p.val, by
  have h : t.val < 20 := lt_of_lt_of_eq t.isLt N_0
  omega⟩

theorem blk_x (t : Fin cfg0.N) (p : Fin 200) (n : Fin 50) (k : Fin 64) :
    (iblk m c 0 t : Vec Ideal S200x50x64 .f32) (ix3 p n k) = (m ((c : Thread nD τ).loc main_arg0) : Vec Ideal S4000x50x64 .f32) (ix3 (pat t p) n k) := by
  obtain ⟨h0, h1, h2⟩ := idx0 t
  unfold iblk
  rw [View.read_apply]
  show V m c main_arg0 _ = _
  rw [V_main_arg0]
  refine congrArg _ (funext fun a => Fin.ext ?_)
  match a with
  | ⟨0, _⟩ => show win0_0.index t 0 * 200 + 1 * p.val = 200 * t.val + p.val; rw [h0]; omega
  | ⟨1, _⟩ => show win0_0.index t 1 * 50 + 1 * n.val = n.val; rw [h1]; omega
  | ⟨2, _⟩ => show win0_0.index t 2 * 64 + 1 * k.val = k.val; rw [h2]; omega

theorem blk_ew (t : Fin cfg0.N) (p : Fin 200) (i : Fin 200) (d : Fin 16) :
    (iblk m c 1 t : Vec Ideal S200x3200 .f32) (ix2 p ⟨16 * i.val + d.val, by omega⟩)
      = (m ((c : Thread nD τ).loc main_arg2) : Vec Ideal S4000x200x16 .f32) (ix3 (pat t p) i d) := by
  obtain ⟨h0, h1⟩ := idx1 t
  unfold iblk
  rw [View.read_apply]
  show V m c main_call0_v0 _ = _
  rw [V_main_call0_v0]
  have e : ∀ u : S4000x3200.Idx, u = ix2 (pat t p) ⟨16 * i.val + d.val, by omega⟩ →
      shapeCast S4000x3200 (m ((c : Thread nD τ).loc main_arg2) : Vec Ideal S4000x200x16 .f32) shapeCasts_S4000x200x16_S4000x3200 u
        = (m ((c : Thread nD τ).loc main_arg2) : Vec Ideal S4000x200x16 .f32) (ix3 (pat t p) i d) := by
    rintro _ rfl
    have hd := d.isLt
    pointwise
  refine e _ (funext fun a => Fin.ext ?_)
  match a with
  | ⟨0, _⟩ => show win0_1.index t 0 * 200 + 1 * p.val = 200 * t.val + p.val; rw [h0]; omega
  | ⟨1, _⟩ => show win0_1.index t 1 * 3200 + 1 * (16 * i.val + d.val) = 16 * i.val + d.val; rw [h1]; omega

theorem idx2 : ∀ t : Fin cfg0.N, win0_2.index t 0 = 0 ∧ win0_2.index t 1 = 0 := by decide +kernel
theorem blk_2 (t : Fin cfg0.N) : (iblk m c 2 t : Vec Ideal S2x200 .i32) = m ((c : Thread nD τ).loc main_arg1) := by
  obtain ⟨h0, h1⟩ := idx2 t
  funext u
  unfold iblk
  rw [View.read_apply]
  show V m c main_arg1 _ = _
  rw [V_main_arg1]
  refine congrArg _ (funext fun a => Fin.ext ?_)
  match a with
  | ⟨0, _⟩ => show win0_2.index t 0 * 2 + 1 * (u 0).val = (u 0).val; rw [h0]; omega
  | ⟨1, _⟩ => show win0_2.index t 1 * 200 + 1 * (u 1).val = (u 1).val; rw [h1]; omega

theorem idx3 : ∀ t : Fin cfg0.N, win0_3.index t 0 = 0 ∧ win0_3.index t 1 = 0 := by decide +kernel
theorem blk_3 (t : Fin cfg0.N) : (iblk m c 3 t : Vec Ideal S64x64 .f32) = m ((c : Thread nD τ).loc main_arg3) := by
  obtain ⟨h0, h1⟩ := idx3 t
  funext u
  unfold iblk
  rw [View.read_apply]
  show V m c main_arg3 _ = _
  rw [V_main_arg3]
  refine congrArg _ (funext fun a => Fin.ext ?_)
  match a with
  | ⟨0, _⟩ => show win0_3.index t 0 * 64 + 1 * (u 0).val = (u 0).val; rw [h0]; omega
  | ⟨1, _⟩ => show win0_3.index t 1 * 64 + 1 * (u 1).val = (u 1).val; rw [h1]; omega

theorem idx4 : ∀ t : Fin cfg0.N, win0_4.index t 0 = 0 ∧ win0_4.index t 1 = 0 := by decide +kernel
theorem blk_4 (t : Fin cfg0.N) : (iblk m c 4 t : Vec Ideal S64x64 .f32) = m ((c : Thread nD τ).loc main_arg4) := by
  obtain ⟨h0, h1⟩ := idx4 t
  funext u
  unfold iblk
  rw [View.read_apply]
  show V m c main_arg4 _ = _
  rw [V_main_arg4]
  refine congrArg _ (funext fun a => Fin.ext ?_)
  match a with
  | ⟨0, _⟩ => show win0_4.index t 0 * 64 + 1 * (u 0).val = (u 0).val; rw [h0]; omega
  | ⟨1, _⟩ => show win0_4.index t 1 * 64 + 1 * (u 1).val = (u 1).val; rw [h1]; omega

theorem idx5 : ∀ t : Fin cfg0.N, win0_5.index t 0 = 0 ∧ win0_5.index t 1 = 0 := by decide +kernel
theorem blk_5 (t : Fin cfg0.N) : (iblk m c 5 t : Vec Ideal S64x64 .f32) = m ((c : Thread nD τ).loc main_arg5) := by
  obtain ⟨h0, h1⟩ := idx5 t
  funext u
  unfold iblk
  rw [View.read_apply]
  show V m c main_arg5 _ = _
  rw [V_main_arg5]
  refine congrArg _ (funext fun a => Fin.ext ?_)
  match a with
  | ⟨0, _⟩ => show win0_5.index t 0 * 64 + 1 * (u 0).val = (u 0).val; rw [h0]; omega
  | ⟨1, _⟩ => show win0_5.index t 1 * 64 + 1 * (u 1).val = (u 1).val; rw [h1]; omega

theorem idx15 : ∀ t : Fin cfg0.N, win0_15.index t 0 = 0 ∧ win0_15.index t 1 = 0 := by decide +kernel
theorem blk_15 (t : Fin cfg0.N) : (iblk m c 15 t : Vec Ideal S192x16 .f32) = m ((c : Thread nD τ).loc main_arg15) := by
  obtain ⟨h0, h1⟩ := idx15 t
  funext u
  unfold iblk
  rw [View.read_apply]
  show V m c main_arg15 _ = _
  rw [V_main_arg15]
  refine congrArg _ (funext fun a => Fin.ext ?_)
  match a with
  | ⟨0, _⟩ => show win0_15.index t 0 * 192 + 1 * (u 0).val = (u 0).val; rw [h0]; omega
  | ⟨1, _⟩ => show win0_15.index t 1 * 16 + 1 * (u 1).val = (u 1).val; rw [h1]; omega

theorem idx6 : ∀ t : Fin cfg0.N, win0_6.index t 0 = 0 ∧ win0_6.index t 1 = 0 := by decide +kernel
theorem blk_6 (t : Fin cfg0.N) (j : Fin 64) :
    (iblk m c 6 t : Vec Ideal S1x64 .f32) (ix2 0 j) = (m ((c : Thread nD τ).loc main_arg6) : Vec Ideal S64 .f32) (ix1 j) := by
  obtain ⟨h0, h1⟩ := idx6 t
  unfold iblk
  rw [View.read_apply]
  show V m c main_call0_v1 _ = _
  rw [V_main_call0_v1]
  have e : ∀ u : S1x64.Idx, u = ix2 0 j →
      shapeCast S1x64 (m ((c : Thread nD τ).loc main_arg6) : Vec Ideal S64 .f32) shapeCasts_S64_S1x64 u
        = (m ((c : Thread nD τ).loc main_arg6) : Vec Ideal S64 .f32) (ix1 j) := by
    rintro _ rfl
    pointwise
  refine e _ (funext fun a => Fin.ext ?_)
  match a with
  | ⟨0, _⟩ => show win0_6.index t 0 * 1 + 1 * 0 = 0; rw [h0]
  | ⟨1, _⟩ => show win0_6.index t 1 * 64 + 1 * j.val = j.val; rw [h1]; omega

theorem idx7 : ∀ t : Fin cfg0.N, win0_7.index t 0 = 0 ∧ win0_7.index t 1 = 0 := by decide +kernel
theorem blk_7 (t : Fin cfg0.N) (j : Fin 64) :
    (iblk m c 7 t : Vec Ideal S1x64 .f32) (ix2 0 j) = (m ((c : Thread nD τ).loc main_arg7) : Vec Ideal S64 .f32) (ix1 j) := by
  obtain ⟨h0, h1⟩ := idx7 t
  unfold iblk
  rw [View.read_apply]
  show V m c main_call0_v2 _ = _
  rw [V_main_call0_v2]
  have e : ∀ u : S1x64.Idx, u = ix2 0 j →
      shapeCast S1x64 (m ((c : Thread nD τ).loc main_arg7) : Vec Ideal S64 .f32) shapeCasts_S64_S1x64 u
        = (m ((c : Thread nD τ).loc main_arg7) : Vec Ideal S64 .f32) (ix1 j) := by
    rintro _ rfl
    pointwise
  refine e _ (funext fun a => Fin.ext ?_)
  match a with
  | ⟨0, _⟩ => show win0_7.index t 0 * 1 + 1 * 0 = 0; rw [h0]
  | ⟨1, _⟩ => show win0_7.index t 1 * 64 + 1 * j.val = j.val; rw [h1]; omega

theorem idx8 : ∀ t : Fin cfg0.N, win0_8.index t 0 = 0 ∧ win0_8.index t 1 = 0 := by decide +kernel
theorem blk_8 (t : Fin cfg0.N) (j : Fin 64) :
    (iblk m c 8 t : Vec Ideal S1x64 .f32) (ix2 0 j) = (m ((c : Thread nD τ).loc main_arg8) : Vec Ideal S64 .f32) (ix1 j) := by
  obtain ⟨h0, h1⟩ := idx8 t
  unfold iblk
  rw [View.read_apply]
  show V m c main_call0_v3 _ = _
  rw [V_main_call0_v3]
  have e : ∀ u : S1x64.Idx, u = ix2 0 j →
      shapeCast S1x64 (m ((c : Thread nD τ).loc main_arg8) : Vec Ideal S64 .f32) shapeCasts_S64_S1x64 u
        = (m ((c : Thread nD τ).loc main_arg8) : Vec Ideal S64 .f32) (ix1 j) := by
    rintro _ rfl
    pointwise
  refine e _ (funext fun a => Fin.ext ?_)
  match a with
  | ⟨0, _⟩ => show win0_8.index t 0 * 1 + 1 * 0 = 0; rw [h0]
  | ⟨1, _⟩ => show win0_8.index t 1 * 64 + 1 * j.val = j.val; rw [h1]; omega

theorem idx9 : ∀ t : Fin cfg0.N, win0_9.index t 0 = 0 ∧ win0_9.index t 1 = 0 := by decide +kernel
theorem blk_9 (t : Fin cfg0.N) (j : Fin 64) :
    (iblk m c 9 t : Vec Ideal S1x64 .f32) (ix2 0 j) = (m ((c : Thread nD τ).loc main_arg9) : Vec Ideal S64 .f32) (ix1 j) := by
  obtain ⟨h0, h1⟩ := idx9 t
  unfold iblk
  rw [View.read_apply]
  show V m c main_call0_v4 _ = _
  rw [V_main_call0_v4]
  have e : ∀ u : S1x64.Idx, u = ix2 0 j →
      shapeCast S1x64 (m ((c : Thread nD τ).loc main_arg9) : Vec Ideal S64 .f32) shapeCasts_S64_S1x64 u
        = (m ((c : Thread nD τ).loc main_arg9) : Vec Ideal S64 .f32) (ix1 j) := by
    rintro _ rfl
    pointwise
  refine e _ (funext fun a => Fin.ext ?_)
  match a with
  | ⟨0, _⟩ => show win0_9.index t 0 * 1 + 1 * 0 = 0; rw [h0]
  | ⟨1, _⟩ => show win0_9.index t 1 * 64 + 1 * j.val = j.val; rw [h1]; omega

theorem idx10 : ∀ t : Fin cfg0.N, win0_10.index t 0 = 0 ∧ win0_10.index t 1 = 0 := by decide +kernel
theorem blk_10 (t : Fin cfg0.N) (j : Fin 64) :
    (iblk m c 10 t : Vec Ideal S1x64 .f32) (ix2 0 j) = (m ((c : Thread nD τ).loc main_arg10) : Vec Ideal S64 .f32) (ix1 j) := by
  obtain ⟨h0, h1⟩ := idx10 t
  unfold iblk
  rw [View.read_apply]
  show V m c main_call0_v5 _ = _
  rw [V_main_call0_v5]
  have e : ∀ u : S1x64.Idx, u = ix2 0 j →
      shapeCast S1x64 (m ((c : Thread nD τ).loc main_arg10) : Vec Ideal S64 .f32) shapeCasts_S64_S1x64 u
        = (m ((c : Thread nD τ).loc main_arg10) : Vec Ideal S64 .f32) (ix1 j) := by
    rintro _ rfl
    pointwise
  refine e _ (funext fun a => Fin.ext ?_)
  match a with
  | ⟨0, _⟩ => show win0_10.index t 0 * 1 + 1 * 0 = 0; rw [h0]
  | ⟨1, _⟩ => show win0_10.index t 1 * 64 + 1 * j.val = j.val; rw [h1]; omega

theorem idx11 : ∀ t : Fin cfg0.N, win0_11.index t 0 = 0 ∧ win0_11.index t 1 = 0 := by decide +kernel
theorem blk_11 (t : Fin cfg0.N) (j : Fin 64) :
    (iblk m c 11 t : Vec Ideal S1x64 .f32) (ix2 0 j) = (m ((c : Thread nD τ).loc main_arg11) : Vec Ideal S64 .f32) (ix1 j) := by
  obtain ⟨h0, h1⟩ := idx11 t
  unfold iblk
  rw [View.read_apply]
  show V m c main_call0_v6 _ = _
  rw [V_main_call0_v6]
  have e : ∀ u : S1x64.Idx, u = ix2 0 j →
      shapeCast S1x64 (m ((c : Thread nD τ).loc main_arg11) : Vec Ideal S64 .f32) shapeCasts_S64_S1x64 u
        = (m ((c : Thread nD τ).loc main_arg11) : Vec Ideal S64 .f32) (ix1 j) := by
    rintro _ rfl
    pointwise
  refine e _ (funext fun a => Fin.ext ?_)
  match a with
  | ⟨0, _⟩ => show win0_11.index t 0 * 1 + 1 * 0 = 0; rw [h0]
  | ⟨1, _⟩ => show win0_11.index t 1 * 64 + 1 * j.val = j.val; rw [h1]; omega

theorem idx12 : ∀ t : Fin cfg0.N, win0_12.index t 0 = 0 ∧ win0_12.index t 1 = 0 := by decide +kernel
theorem blk_12 (t : Fin cfg0.N) (j : Fin 16) :
    (iblk m c 12 t : Vec Ideal S1x16 .f32) (ix2 0 j) = (m ((c : Thread nD τ).loc main_arg12) : Vec Ideal S16 .f32) (ix1 j) := by
  obtain ⟨h0, h1⟩ := idx12 t
  unfold iblk
  rw [View.read_apply]
  show V m c main_call0_v7 _ = _
  rw [V_main_call0_v7]
  have e : ∀ u : S1x16.Idx, u = ix2 0 j →
      shapeCast S1x16 (m ((c : Thread nD τ).loc main_arg12) : Vec Ideal S16 .f32) shapeCasts_S16_S1x16 u
        = (m ((c : Thread nD τ).loc main_arg12) : Vec Ideal S16 .f32) (ix1 j) := by
    rintro _ rfl
    pointwise
  refine e _ (funext fun a => Fin.ext ?_)
  match a with
  | ⟨0, _⟩ => show win0_12.index t 0 * 1 + 1 * 0 = 0; rw [h0]
  | ⟨1, _⟩ => show win0_12.index t 1 * 16 + 1 * j.val = j.val; rw [h1]; omega

theorem idx13 : ∀ t : Fin cfg0.N, win0_13.index t 0 = 0 ∧ win0_13.index t 1 = 0 := by decide +kernel
theorem blk_13 (t : Fin cfg0.N) (j : Fin 16) :
    (iblk m c 13 t : Vec Ideal S1x16 .f32) (ix2 0 j) = (m ((c : Thread nD τ).loc main_arg13) : Vec Ideal S16 .f32) (ix1 j) := by
  obtain ⟨h0, h1⟩ := idx13 t
  unfold iblk
  rw [View.read_apply]
  show V m c main_call0_v8 _ = _
  rw [V_main_call0_v8]
  have e : ∀ u : S1x16.Idx, u = ix2 0 j →
      shapeCast S1x16 (m ((c : Thread nD τ).loc main_arg13) : Vec Ideal S16 .f32) shapeCasts_S16_S1x16 u
        = (m ((c : Thread nD τ).loc main_arg13) : Vec Ideal S16 .f32) (ix1 j) := by
    rintro _ rfl
    pointwise
  refine e _ (funext fun a => Fin.ext ?_)
  match a with
  | ⟨0, _⟩ => show win0_13.index t 0 * 1 + 1 * 0 = 0; rw [h0]
  | ⟨1, _⟩ => show win0_13.index t 1 * 16 + 1 * j.val = j.val; rw [h1]; omega

theorem idx14 : ∀ t : Fin cfg0.N, win0_14.index t 0 = 0 ∧ win0_14.index t 1 = 0 := by decide +kernel
theorem blk_14 (t : Fin cfg0.N) (j : Fin 16) :
    (iblk m c 14 t : Vec Ideal S1x16 .f32) (ix2 0 j) = (m ((c : Thread nD τ).loc main_arg14) : Vec Ideal S16 .f32) (ix1 j) := by
  obtain ⟨h0, h1⟩ := idx14 t
  unfold iblk
  rw [View.read_apply]
  show V m c main_call0_v9 _ = _
  rw [V_main_call0_v9]
  have e : ∀ u : S1x16.Idx, u = ix2 0 j →
      shapeCast S1x16 (m ((c : Thread nD τ).loc main_arg14) : Vec Ideal S16 .f32) shapeCasts_S16_S1x16 u
        = (m ((c : Thread nD τ).loc main_arg14) : Vec Ideal S16 .f32) (ix1 j) := by
    rintro _ rfl
    pointwise
  refine e _ (funext fun a => Fin.ext ?_)
  match a with
  | ⟨0, _⟩ => show win0_14.index t 0 * 1 + 1 * 0 = 0; rw [h0]
  | ⟨1, _⟩ => show win0_14.index t 1 * 16 + 1 * j.val = j.val; rw [h1]; omega

end Cert.Proof.K

end
-- ==== Proof.KFold.lean ====
/-
  The kernel's result as one sum over the grid: the three rows collect the three layers' outputs over every point's block
  of patches, and the last point classifies them.
-/
module

public import proofs.«01_k».proof.Proof.KCase
public import proofs.«01_k».proof.Proof.KBlock

@[expose] public section

set_option maxRecDepth 16384

noncomputable section

open Idealize.ShloMosaic Idealize.ShloMosaic.TcCoe Idealize.SL.Sem
open Cert.KernelIdeal Cert.KernelIdeal.Gen Cert.KernelIdeal.Value
open scoped BigOperators

namespace Cert.Proof.K

variable (m : (ℓ : Loc nD τ sig) → Buf (Elt Ideal) ℓ) (c : Dev nD)

/-- The rows start at zero. -/
theorem pay2_apply (l : Fin 3) (j : Fin 64) : k0_pay2 (F := Ideal) (Idealize.ShloMosaic.ix2 l j) = 0 := by
  unfold k0_pay2
  pointwise

/-- The three layers' outputs on a point's block. -/
def out1 (t : Fin cfg0.N) : FVec Ideal S200x50x64 .f32 :=
  lay (iblk m c 2 t) (iblk m c 1 t) (iblk m c 12 t) (iblk m c 6 t) (iblk m c 9 t) (iblk m c 3 t) (iblk m c 0 t)
def out2 (t : Fin cfg0.N) : FVec Ideal S200x50x64 .f32 :=
  lay (iblk m c 2 t) (iblk m c 1 t) (iblk m c 13 t) (iblk m c 7 t) (iblk m c 10 t) (iblk m c 4 t) (out1 m c t)
def out3 (t : Fin cfg0.N) : FVec Ideal S200x50x64 .f32 :=
  lay (iblk m c 2 t) (iblk m c 1 t) (iblk m c 14 t) (iblk m c 8 t) (iblk m c 11 t) (iblk m c 5 t) (out2 m c t)

/-- The layers' outputs by number. -/
def out (l : Fin 3) (t : Fin cfg0.N) : FVec Ideal S200x50x64 .f32 := ![out1 m c t, out2 m c t, out3 m c t] l

/-- What a point adds to a layer's row. -/
def tot (l : Fin 3) (j : Fin 64) (t : Fin cfg0.N) : EReal := ∑ p : Fin 200, ∑ n : Fin 50, out m c l t (ix3 p n j)

/-- The rows after a point, from the rows before it. -/
def next (t : Fin cfg0.N) (r : Vec Ideal S3x64 .f32) : Vec Ideal S3x64 .f32 :=
  step (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) r

/-- A point adds its blocks' sums. -/
theorem next_apply (t : Fin cfg0.N) (r : Vec Ideal S3x64 .f32) (l : Fin 3) (j : Fin 64) :
    next m c t r (Idealize.ShloMosaic.ix2 l j) = r (Idealize.ShloMosaic.ix2 l j) + tot m c l j t := by
  match l with
  | ⟨0, _⟩ => exact row_apply (out1 m c t) (row r 0) j
  | ⟨1, _⟩ => exact row_apply (out2 m c t) (row r 1) j
  | ⟨2, _⟩ => exact row_apply (out3 m c t) (row r 2) j

/-- The rows after the first point. -/
theorem rows_first (t : Fin cfg0.N) (acc : Vec Ideal S1x16 .f32 × Vec Ideal S3x64 .f32) (h : t.val = 0) :
    (stAt0 m c t.val t.isLt acc).2 = next m c t (k0_pay2 (F := Ideal)) := by
  rw [stAt0_A m c t acc (by omega) (by omega)]
  dsimp only
  rw [sout_A]
  rfl

/-- The rows after a point between. -/
theorem rows_between (t : Fin cfg0.N) (acc : Vec Ideal S1x16 .f32 × Vec Ideal S3x64 .f32) (h : t.val ≠ 0) (h' : t.val < 19) :
    (stAt0 m c t.val t.isLt acc).2 = next m c t acc.2 := by
  rw [stAt0_B m c t acc (by omega) (by omega)]
  dsimp only
  rw [sout_B]
  rfl

/-- The result the last point writes. -/
theorem last_out (t : Fin cfg0.N) (acc : Vec Ideal S1x16 .f32 × Vec Ideal S3x64 .f32) (h : t.val = 19) :
    (stAt0 m c t.val t.isLt acc).1 = k0_pay1 (F := Ideal) (next m c t acc.2) (cls (iblk m c 15 t) 0) (cls (iblk m c 15 t) 1)
      (cls (iblk m c 15 t) 2) := by
  rw [stAt0_C m c t acc (by omega) (by omega)]
  dsimp only
  rw [out_C]
  rfl

/-- The rows after each point but the last are the sums so far. -/
theorem rows_sum (l : Fin 3) (j : Fin 64) : (n : Nat) → (h : 0 + n < cfg0.N) → (hn : n < 19) →
    (Pipeline.accAt (fun n h => stAt0 m c n h junk0) (stAt0 m c) 0 n h).2 (Idealize.ShloMosaic.ix2 l j)
      = ∑ t : Fin (n + 1), tot m c l j ⟨t.val, by omega⟩
  | 0, h, _ => by
      rw [Pipeline.accAt_zero]
      rw [rows_first m c ⟨0, by omega⟩ junk0 rfl, next_apply, pay2_apply, zero_add]
      simp
  | n + 1, h, hn => by
      have ih := rows_sum l j n (by omega) (by omega)
      rw [Pipeline.accAt_succ]
      have e := rows_between m c ⟨0 + (n + 1), h⟩ (Pipeline.accAt (fun n h => stAt0 m c n h junk0) (stAt0 m c) 0 n (by omega))
        (by show 0 + (n + 1) ≠ 0; omega) (by show 0 + (n + 1) < 19; omega)
      refine (congrFun e _).trans ?_
      rw [next_apply, ih, Fin.sum_univ_castSucc (n := n + 1)]
      have e2 : (⟨0 + (n + 1), h⟩ : Fin cfg0.N) = ⟨(Fin.last (n + 1)).val, by show n + 1 < _; omega⟩ := Fin.ext (by show 0 + (n + 1) = n + 1; omega)
      rw [e2]
      rfl

/-- The last point. -/
def tLast : Fin cfg0.N := ⟨19, lt_of_lt_of_eq (by decide) N_0.symm⟩

/-- The kernel's result at an index: the layers' sums over all blocks, scaled, against the classifier's rows. -/
theorem result_apply (o : Fin 16) :
    G16 m c (Idealize.ShloMosaic.ix2 0 o)
      = (∑ j : Fin 64, (∑ t : Fin 20, tot m c 0 j ⟨t.val, lt_of_lt_of_eq t.isLt N_0.symm⟩) * ((1 / 200000 : ℝ) : EReal)
          * (m ((c : Thread nD τ).loc main_arg15) : Vec Ideal S192x16 .f32) (Idealize.ShloMosaic.ix2 ⟨j.val, by omega⟩ o))
        + (∑ j : Fin 64, (∑ t : Fin 20, tot m c 1 j ⟨t.val, lt_of_lt_of_eq t.isLt N_0.symm⟩) * ((1 / 200000 : ℝ) : EReal)
          * (m ((c : Thread nD τ).loc main_arg15) : Vec Ideal S192x16 .f32) (Idealize.ShloMosaic.ix2 ⟨64 + j.val, by omega⟩ o))
        + ∑ j : Fin 64, (∑ t : Fin 20, tot m c 2 j ⟨t.val, lt_of_lt_of_eq t.isLt N_0.symm⟩) * ((1 / 200000 : ℝ) : EReal)
          * (m ((c : Thread nD τ).loc main_arg15) : Vec Ideal S192x16 .f32) (Idealize.ShloMosaic.ix2 ⟨128 + j.val, by omega⟩ o) := by
  have h18 : 0 + 18 < cfg0.N := lt_of_lt_of_eq (by decide) N_0.symm
  have hr : ∀ l j, next m c tLast (Pipeline.accAt (fun n h => stAt0 m c n h junk0) (stAt0 m c) 0 18 h18).2 (Idealize.ShloMosaic.ix2 l j)
      = ∑ t : Fin 20, tot m c l j ⟨t.val, lt_of_lt_of_eq t.isLt N_0.symm⟩ := by
    intro l j
    rw [next_apply, rows_sum m c l j 18 h18 (by omega), Fin.sum_univ_castSucc (n := 19)]
    rfl
  have hl : G16 m c = k0_pay1 (F := Ideal) (next m c tLast (Pipeline.accAt (fun n h => stAt0 m c n h junk0) (stAt0 m c) 0 18 h18).2)
      (cls (iblk m c 15 tLast) 0) (cls (iblk m c 15 tLast) 1) (cls (iblk m c 15 tLast) 2) := by
    rw [G16_last, Pipeline.accAt_succ _ _ 0 18]
    exact last_out m c tLast _ rfl
  rw [hl, pay1_apply]
  simp only [hr, blk_15]
  have hc : ∀ (C : Vec Ideal S192x16 .f32) (j : Fin 64), cls C 0 (Idealize.ShloMosaic.ix2 j o) = C (Idealize.ShloMosaic.ix2 ⟨j.val, by omega⟩ o) :=
    fun C j => congrArg (fun k => C (Idealize.ShloMosaic.ix2 k o)) (Fin.ext (show 64 * 0 + j.val = j.val by omega))
  simp only [hc]
  rfl

end Cert.Proof.K

end
-- ==== Proof.RIndex.lean ====
/-
  The reference's gathers and scatters read at an index: where the index vector holds node numbers, a gather down the
  node axis picks the node, and an update of a scatter lands at its node.
-/
module

public import proofs.«01_k».proof.Proof.Spec
public import proofs.«01_k».proof.Proof.Gen.ReferenceIdeal.Run
public import Idealize.ShloMosaic.Lib.Pointwise

@[expose] public section

set_option maxRecDepth 16384

noncomputable section

namespace Cert.Proof.R

open Idealize.ShloMosaic Cert.ReferenceIdeal Cert.ReferenceIdeal.Gen
open scoped BigOperators

abbrev dG3 := gather_S4000x50x64_S200x1_S4000x200x64_02_1_n_n_1_1_4000164
abbrev dG2 := gather_S4000x50_S200x1_S4000x200_0_1_n_n_1_1_40001
abbrev dS3 := scatter_S4000x50x64_S200x1_S4000x200x64_02_1_1_1
abbrev dS2 := scatter_S4000x50_S200x1_S4000x200_0_1_1_1

theorem toInt_ofNat (k : Fin 50) : (BitVec.ofNat 32 k.val).toInt = (k.val : Int) := by
  rw [BitVec.toInt_ofNat', Int.bmod_eq_of_le] <;> omega

theorem g3_si (p : Fin 4000) (i : Fin 200) (j : Fin 64) : dG3.siIdx (ix3 p i j) ⟨0, by decide⟩ = ix2 i (0 : Fin 1) := by
  funext a
  match a with
  | ⟨0, _⟩ => rfl
  | ⟨1, _⟩ => rfl

/-- A gather of node rows, at an index. -/
theorem gather3 {α : Type} (x : S4000x50x64.Idx → α) (idx : IVec S200x1 32) (p : Fin 4000) (i : Fin 200) (j : Fin 64)
    (k : Fin 50) (hk : idx (ix2 i 0) = BitVec.ofNat 32 k.val) :
    Host.gather dG3 x idx (ix3 p i j) = x (ix3 p k j) := by
  unfold Host.gather
  refine congrArg x (funext fun a => Fin.ext ?_)
  match a with
  | ⟨0, _⟩ => show 0 + 0 + p.val = p.val; omega
  | ⟨1, _⟩ =>
    show min (idx (dG3.siIdx (ix3 p i j) ⟨0, _⟩)).toInt.toNat 49 + 0 + 0 = k.val
    rw [g3_si, hk, toInt_ofNat]
    have := k.isLt; omega
  | ⟨2, _⟩ => show 0 + 0 + j.val = j.val; omega

theorem g2_si (p : Fin 4000) (i : Fin 200) : dG2.siIdx (ix2 p i) ⟨0, by decide⟩ = ix2 i (0 : Fin 1) := by
  funext a
  match a with
  | ⟨0, _⟩ => rfl
  | ⟨1, _⟩ => rfl

/-- A gather of node sums, at an index. -/
theorem gather2 {α : Type} (x : S4000x50.Idx → α) (idx : IVec S200x1 32) (p : Fin 4000) (i : Fin 200)
    (k : Fin 50) (hk : idx (ix2 i 0) = BitVec.ofNat 32 k.val) :
    Host.gather dG2 x idx (ix2 p i) = x (ix2 p k) := by
  unfold Host.gather
  refine congrArg x (funext fun a => Fin.ext ?_)
  match a with
  | ⟨0, _⟩ => show 0 + 0 + p.val = p.val; omega
  | ⟨1, _⟩ =>
    show min (idx (dG2.siIdx (ix2 p i) ⟨0, _⟩)).toInt.toNat 49 + 0 + 0 = k.val
    rw [g2_si, hk, toInt_ofNat]
    have := k.isLt; omega

theorem s3_si (p : Fin 4000) (i : Fin 200) (j : Fin 64) : dS3.siIdx (ix3 p i j) ⟨0, by decide⟩ = ix2 i (0 : Fin 1) := by
  funext a
  match a with
  | ⟨0, _⟩ => rfl
  | ⟨1, _⟩ => rfl

/-- Where an update of the message scatter lands. -/
theorem s3_lands (idx : IVec S200x1 32) (dst : Fin 200 → Fin 50) (hd : ∀ i, idx (ix2 i 0) = BitVec.ofNat 32 (dst i).val)
    (p : Fin 4000) (i : Fin 200) (j : Fin 64) : dS3.resultIdx? (ix3 p i j) idx = some (ix3 p (dst i) j) := by
  have c0 : dS3.start (ix3 p i j) idx 0 + dS3.window (ix3 p i j) 0 = (p.val : Int) := by
    show (0 : Int) + (p.val : Int) = _; omega
  have c1 : dS3.start (ix3 p i j) idx 1 + dS3.window (ix3 p i j) 1 = ((dst i).val : Int) := by
    show (idx (dS3.siIdx (ix3 p i j) ⟨0, _⟩)).toInt + 0 = _
    rw [s3_si, hd, toInt_ofNat]; omega
  have c2 : dS3.start (ix3 p i j) idx 2 + dS3.window (ix3 p i j) 2 = (j.val : Int) := by
    show (0 : Int) + (j.val : Int) = _; omega
  have hp := p.isLt; have hn := (dst i).isLt; have hj := j.isLt
  unfold ScatterDims.resultIdx?
  rw [dif_pos (fun a => by
    match a with
    | ⟨0, _⟩ => show 0 ≤ dS3.start (ix3 p i j) idx 0 + dS3.window (ix3 p i j) 0 ∧ dS3.start (ix3 p i j) idx 0 + dS3.window (ix3 p i j) 0 < (4000 : Nat); rw [c0]; omega
    | ⟨1, _⟩ => show 0 ≤ dS3.start (ix3 p i j) idx 1 + dS3.window (ix3 p i j) 1 ∧ dS3.start (ix3 p i j) idx 1 + dS3.window (ix3 p i j) 1 < (50 : Nat); rw [c1]; omega
    | ⟨2, _⟩ => show 0 ≤ dS3.start (ix3 p i j) idx 2 + dS3.window (ix3 p i j) 2 ∧ dS3.start (ix3 p i j) idx 2 + dS3.window (ix3 p i j) 2 < (64 : Nat); rw [c2]; omega)]
  refine congrArg some (funext fun a => Fin.ext ?_)
  match a with
  | ⟨0, _⟩ => show (dS3.start (ix3 p i j) idx 0 + dS3.window (ix3 p i j) 0).toNat = p.val; rw [c0]; omega
  | ⟨1, _⟩ => show (dS3.start (ix3 p i j) idx 1 + dS3.window (ix3 p i j) 1).toNat = (dst i).val; rw [c1]; omega
  | ⟨2, _⟩ => show (dS3.start (ix3 p i j) idx 2 + dS3.window (ix3 p i j) 2).toNat = j.val; rw [c2]; omega

theorem s2_si (p : Fin 4000) (i : Fin 200) : dS2.siIdx (ix2 p i) ⟨0, by decide⟩ = ix2 i (0 : Fin 1) := by
  funext a
  match a with
  | ⟨0, _⟩ => rfl
  | ⟨1, _⟩ => rfl

/-- Where an update of the weight scatter lands. -/
theorem s2_lands (idx : IVec S200x1 32) (dst : Fin 200 → Fin 50) (hd : ∀ i, idx (ix2 i 0) = BitVec.ofNat 32 (dst i).val)
    (p : Fin 4000) (i : Fin 200) : dS2.resultIdx? (ix2 p i) idx = some (ix2 p (dst i)) := by
  have c0 : dS2.start (ix2 p i) idx 0 + dS2.window (ix2 p i) 0 = (p.val : Int) := by
    show (0 : Int) + (p.val : Int) = _; omega
  have c1 : dS2.start (ix2 p i) idx 1 + dS2.window (ix2 p i) 1 = ((dst i).val : Int) := by
    show (idx (dS2.siIdx (ix2 p i) ⟨0, _⟩)).toInt + 0 = _
    rw [s2_si, hd, toInt_ofNat]; omega
  have hp := p.isLt; have hn := (dst i).isLt
  unfold ScatterDims.resultIdx?
  rw [dif_pos (fun a => by
    match a with
    | ⟨0, _⟩ => show 0 ≤ dS2.start (ix2 p i) idx 0 + dS2.window (ix2 p i) 0 ∧ dS2.start (ix2 p i) idx 0 + dS2.window (ix2 p i) 0 < (4000 : Nat); rw [c0]; omega
    | ⟨1, _⟩ => show 0 ≤ dS2.start (ix2 p i) idx 1 + dS2.window (ix2 p i) 1 ∧ dS2.start (ix2 p i) idx 1 + dS2.window (ix2 p i) 1 < (50 : Nat); rw [c1]; omega)]
  refine congrArg some (funext fun a => Fin.ext ?_)
  match a with
  | ⟨0, _⟩ => show (dS2.start (ix2 p i) idx 0 + dS2.window (ix2 p i) 0).toNat = p.val; rw [c0]; omega
  | ⟨1, _⟩ => show (dS2.start (ix2 p i) idx 1 + dS2.window (ix2 p i) 1).toNat = (dst i).val; rw [c1]; omega

/-- The message scatter at an index: the operand plus the updates whose edge enters the node. -/
theorem scatter3 (x : FVec Ideal S4000x50x64 .f32) (idx : IVec S200x1 32) (upd : FVec Ideal S4000x200x64 .f32)
    (dst : Fin 200 → Fin 50) (hd : ∀ i, idx (ix2 i 0) = BitVec.ofNat 32 (dst i).val) (p : Fin 4000) (n : Fin 50) (j : Fin 64) :
    Host.scatterAdd dS3 x idx upd (ix3 p n j) = x (ix3 p n j) + ∑ i, if dst i = n then upd (ix3 p i j) else 0 := by
  show x (ix3 p n j) + ∑ u ∈ Finset.univ.filter (fun u => dS3.resultIdx? u idx = some (ix3 p n j)), upd u = _
  refine congrArg _ ?_
  rw [← Finset.sum_filter]
  have key : ∀ u : S4000x200x64.Idx, dS3.resultIdx? u idx = some (ix3 p n j) ↔ u 0 = p ∧ dst (u 1) = n ∧ u 2 = j := fun u => by
    obtain ⟨a, b, c, rfl⟩ : ∃ (a : Fin 4000) (b : Fin 200) (c : Fin 64), u = ix3 a b c := ⟨u 0, u 1, u 2, ValueIdx.eq_ix3 u⟩
    rw [s3_lands idx dst hd]
    constructor
    · intro h
      have h := Option.some.inj h
      exact ⟨congrFun h 0, congrFun h 1, congrFun h 2⟩
    · rintro ⟨h0, h1, h2⟩
      rw [show a = p from h0, show dst b = n from h1, show c = j from h2]
  refine Finset.sum_nbij' (fun u => u 1) (fun i => ix3 p i j) ?_ ?_ ?_ ?_ ?_
  · intro u hu; exact Finset.mem_filter.2 ⟨Finset.mem_univ _, ((key u).1 (Finset.mem_filter.1 hu).2).2.1⟩
  · intro i hi; exact Finset.mem_filter.2 ⟨Finset.mem_univ _, (key _).2 ⟨rfl, (Finset.mem_filter.1 hi).2, rfl⟩⟩
  · intro u hu
    obtain ⟨h0, -, h2⟩ := (key u).1 (Finset.mem_filter.1 hu).2
    rw [← h0, ← h2]; exact (ValueIdx.eq_ix3 u).symm
  · intro i _; rfl
  · intro u hu
    obtain ⟨h0, -, h2⟩ := (key u).1 (Finset.mem_filter.1 hu).2
    rw [← h0, ← h2]; exact congrArg upd (ValueIdx.eq_ix3 u)

/-- The weight scatter at an index: the operand plus the updates whose edge enters the node. -/
theorem scatter2 (x : FVec Ideal S4000x50 .f32) (idx : IVec S200x1 32) (upd : FVec Ideal S4000x200 .f32)
    (dst : Fin 200 → Fin 50) (hd : ∀ i, idx (ix2 i 0) = BitVec.ofNat 32 (dst i).val) (p : Fin 4000) (n : Fin 50) :
    Host.scatterAdd dS2 x idx upd (ix2 p n) = x (ix2 p n) + ∑ i, if dst i = n then upd (ix2 p i) else 0 := by
  show x (ix2 p n) + ∑ u ∈ Finset.univ.filter (fun u => dS2.resultIdx? u idx = some (ix2 p n)), upd u = _
  refine congrArg _ ?_
  rw [← Finset.sum_filter]
  have key : ∀ u : S4000x200.Idx, dS2.resultIdx? u idx = some (ix2 p n) ↔ u 0 = p ∧ dst (u 1) = n := fun u => by
    obtain ⟨a, b, rfl⟩ : ∃ (a : Fin 4000) (b : Fin 200), u = ix2 a b := ⟨u 0, u 1, ValueIdx.eq_ix2 u⟩
    rw [s2_lands idx dst hd]
    constructor
    · intro h
      have h := Option.some.inj h
      exact ⟨congrFun h 0, congrFun h 1⟩
    · rintro ⟨h0, h1⟩
      rw [show a = p from h0, show dst b = n from h1]
  refine Finset.sum_nbij' (fun u => u 1) (fun i => ix2 p i) ?_ ?_ ?_ ?_ ?_
  · intro u hu; exact Finset.mem_filter.2 ⟨Finset.mem_univ _, ((key u).1 (Finset.mem_filter.1 hu).2).2⟩
  · intro i hi; exact Finset.mem_filter.2 ⟨Finset.mem_univ _, (key _).2 ⟨rfl, (Finset.mem_filter.1 hi).2⟩⟩
  · intro u hu
    obtain ⟨h0, -⟩ := (key u).1 (Finset.mem_filter.1 hu).2
    rw [← h0]; exact (ValueIdx.eq_ix2 u).symm
  · intro i _; rfl
  · intro u hu
    obtain ⟨h0, -⟩ := (key u).1 (Finset.mem_filter.1 hu).2
    rw [← h0]; exact congrArg upd (ValueIdx.eq_ix2 u)

end Cert.Proof.R
-- ==== Proof.RLayer.lean ====
/-
  The reference's layer read at an index: on every patch it is the layer of Spec.lean. The three layers of the
  reference are one expression in their arguments, so the reading is done once.
-/
module

public import proofs.«01_k».proof.Proof.RIndex

@[expose] public section

set_option maxRecDepth 16384

noncomputable section

namespace Cert.Proof.R

open Idealize.ShloMosaic Cert.ReferenceIdeal Cert.ReferenceIdeal.Gen
open scoped BigOperators

/-- The index vector of a gather: a negative word would be shifted by the number of nodes. -/
def rNorm (v : IVec S200 32) : IVec S200x1 32 :=
  broadcastInDim S200x1 ![0] bcast_S200_S200x1_0
    (select (cmpi .slt v (broadcastInDim S200 ![] bcast_S_S200 (constantI S_ 32 0#32)))
      (addi v (broadcastInDim S200 ![] bcast_S_S200 (constantI S_ 32 50#32))) v)

/-- One end's share of the logits. -/
def rShare (z : FVec Ideal S4000x50x64 .f32) (v : IVec S200 32) (a : FVec Ideal S64 .f32) : FVec Ideal S4000x200 .f32 :=
  Host.reduceAdd (mulf (Host.gather dG3 z (rNorm v)) (broadcastInDim S4000x200x64 ![0, 1, 2] bcast_S1x1x64_S4000x200x64_0_1_2
    (broadcastInDim S1x1x64 ![1, 2] bcast_S1x64_S1x1x64_1_2 (broadcastInDim S1x64 ![1] bcast_S64_S1x64_1 a))))
    (constant (F := Ideal) S_ .f32 0x00000000#32) reducesTo_S4000x200x64_S4000x200_d2 h_S_

/-- The logits before the leaky ramp. -/
def rPre (z : FVec Ideal S4000x50x64 .f32) (vs vd : IVec S200 32) (a b : FVec Ideal S64 .f32)
    (ew : FVec Ideal S4000x200x16 .f32) (we : FVec Ideal S16 .f32) : FVec Ideal S4000x200 .f32 :=
  addf (addf (rShare z vs a) (rShare z vd b)) (Host.dotGeneral dot_S4000x200x16_S16_S4000x200_2_0_01_n_n_n none ew we)

/-- The leaky ramp. -/
def rLk (e : FVec Ideal S4000x200 .f32) : FVec Ideal S4000x200 .f32 :=
  select (cmpf .oge e (broadcastInDim S4000x200 ![] bcast_S_S4000x200 (constant S_ .f32 0x00000000#32))) e
    (mulf (broadcastInDim S4000x200 ![] bcast_S_S4000x200 (id (constant S_ .f32 0x3E4CCCCD#32))) e)

/-- The weights. -/
def rWt (l : FVec Ideal S4000x200 .f32) : FVec Ideal S4000x200 .f32 :=
  Host.exp (subf l (broadcastInDim S4000x200 ![0, 1] bcast_S4000x1_S4000x200_0_1 (broadcastInDim S4000x1 ![0] bcast_S4000_S4000x1_0
    (Host.reduce FloatOps.maximumf l (constant (F := Ideal) S_ .f32 0xFF800000#32) reducesTo_S4000x200_S4000_d1 h_S_))))

/-- The attention. -/
def rAtt (x : FVec Ideal S4000x200 .f32) (vd : IVec S200 32) : FVec Ideal S4000x200 .f32 :=
  Host.divf x (addf (Host.gather dG2 (Host.scatterAdd dS2 (broadcastInDim S4000x50 ![1] bcast_S50_S4000x50_1
      (broadcastInDim S50 ![] bcast_S_S50 (constant S_ .f32 0x00000000#32))) (broadcastInDim S200x1 ![0] bcast_S200_S200x1_0 vd) x)
    (rNorm vd)) (broadcastInDim S4000x200 ![] bcast_S_S4000x200 (constant S_ .f32 0x0DA24260#32)))

/-- The messages. -/
def rMsg (z : FVec Ideal S4000x50x64 .f32) (α : FVec Ideal S4000x200 .f32) (vs vd : IVec S200 32) : FVec Ideal S4000x50x64 .f32 :=
  Host.scatterAdd dS3 (broadcastInDim S4000x50x64 ![1, 2] bcast_S50x64_S4000x50x64_1_2
      (broadcastInDim S50x64 ![] bcast_S_S50x64 (constant S_ .f32 0x00000000#32))) (broadcastInDim S200x1 ![0] bcast_S200_S200x1_0 vd)
    (mulf (broadcastInDim S4000x200x64 ![0, 1, 2] bcast_S4000x200x1_S4000x200x64_0_1_2
      (broadcastInDim S4000x200x1 ![0, 1] bcast_S4000x200_S4000x200x1_0_1 α)) (Host.gather dG3 z (rNorm vs)))

/-- The ramp with the residual. -/
def rOut (m h : FVec Ideal S4000x50x64 .f32) : FVec Ideal S4000x50x64 .f32 :=
  addf (select (cmpf .ogt m (broadcastInDim S4000x50x64 ![] bcast_S_S4000x50x64 (constant S_ .f32 0x00000000#32))) m
    (mulf (broadcastInDim S4000x50x64 ![] bcast_S_S4000x50x64 (constant S_ .f32 0x3F800000#32))
      (Host.expm1 (select (cmpf .ogt m (broadcastInDim S4000x50x64 ![] bcast_S_S4000x50x64 (constant S_ .f32 0x00000000#32)))
        (broadcastInDim S4000x50x64 ![1, 2] bcast_S50x64_S4000x50x64_1_2 (broadcastInDim S50x64 ![] bcast_S_S50x64
          (id (constant S_ .f32 0x00000000#32)))) m)))) h

/-- The projection. -/
def rLin (h : FVec Ideal S4000x50x64 .f32) (W : FVec Ideal S64x64 .f32) : FVec Ideal S4000x50x64 .f32 :=
  Host.dotGeneral dot_S4000x50x64_S64x64_S4000x50x64_2_0_01_1_n_n none h W

/-- The layer. -/
def rLayer (vs vd : IVec S200 32) (W : FVec Ideal S64x64 .f32) (a b : FVec Ideal S64 .f32) (ew : FVec Ideal S4000x200x16 .f32)
    (we : FVec Ideal S16 .f32) (h : FVec Ideal S4000x50x64 .f32) : FVec Ideal S4000x50x64 .f32 :=
  rOut (rMsg (rLin h W) (rAtt (rWt (rLk (rPre (rLin h W) vs vd a b ew we))) vd) vs vd) h

/-! ## Read at an index -/

/-- The vector holds the node numbers `s`. -/
def Names (v : IVec S200 32) (s : Fin 200 → Fin 50) : Prop := ∀ i, v (ix1 i) = BitVec.ofNat 32 (s i).val

theorem raw_apply {v : IVec S200 32} {s : Fin 200 → Fin 50} (h : Names v s) (i : Fin 200) :
    broadcastInDim S200x1 ![0] bcast_S200_S200x1_0 v (ix2 i 0) = BitVec.ofNat 32 (s i).val := by
  pointwise
  exact h i

theorem slt_zero (k : Fin 50) : IntOp.cmpi .slt (BitVec.ofNat 32 k.val) 0#32 = 0#1 := by
  revert k; decide

theorem norm_apply {v : IVec S200 32} {s : Fin 200 → Fin 50} (h : Names v s) (i : Fin 200) :
    rNorm v (ix2 i 0) = BitVec.ofNat 32 (s i).val := by
  unfold rNorm
  pointwise
  rw [h i]
  rw [slt_zero]
  rfl

variable {vs vd : IVec S200 32} {src dst : Fin 200 → Fin 50}

theorem lin_apply (h : FVec Ideal S4000x50x64 .f32) (W : FVec Ideal S64x64 .f32) (p : Fin 4000) (n : Fin 50) (j : Fin 64) :
    rLin h W (ix3 p n j) = lin (fun n k => h (ix3 p n k)) (fun k j => W (ix2 k j)) n j := by
  unfold rLin
  pointwise
  rfl

theorem share_apply (hs : Names vs src) (z : FVec Ideal S4000x50x64 .f32) (a : FVec Ideal S64 .f32) (p : Fin 4000) (i : Fin 200) :
    rShare z vs a (ix2 p i) = share (fun n j => z (ix3 p n j)) (fun j => a (ix1 j)) (src i) := by
  unfold rShare
  pointwise
  unfold share
  refine Finset.sum_congr rfl fun j _ => ?_
  rw [gather3 z _ p i j (src i) (norm_apply hs i)]

theorem lk_apply (e : FVec Ideal S4000x200 .f32) (p : Fin 4000) (i : Fin 200) : rLk e (ix2 p i) = lk (e (ix2 p i)) := by
  unfold rLk
  pointwise
  exact lk_ge _

theorem pre_apply (hs : Names vs src) (hd : Names vd dst) (z : FVec Ideal S4000x50x64 .f32) (a b : FVec Ideal S64 .f32)
    (ew : FVec Ideal S4000x200x16 .f32) (we : FVec Ideal S16 .f32) (p : Fin 4000) (i : Fin 200) :
    rPre z vs vd a b ew we (ix2 p i)
      = share (fun n j => z (ix3 p n j)) (fun j => a (ix1 j)) (src i) + share (fun n j => z (ix3 p n j)) (fun j => b (ix1 j)) (dst i)
        + ∑ d : Fin 16, ew (ix3 p i d) * we (ix1 d) := by
  unfold rPre
  pointwise
  rw [share_apply hs, share_apply hd]

theorem wt_apply (l : FVec Ideal S4000x200 .f32) (p : Fin 4000) (i : Fin 200) :
    rWt l (ix2 p i) = wt (fun i => l (ix2 p i)) i := by
  unfold rWt
  pointwise
  unfold wt peak
  rw [ofBits_ninf]

theorem att_apply (hd : Names vd dst) (x : FVec Ideal S4000x200 .f32) (p : Fin 4000) (i : Fin 200) :
    rAtt x vd (ix2 p i) = att dst (fun i => x (ix2 p i)) i := by
  unfold rAtt
  pointwise
  rw [gather2 _ _ p i (dst i) (norm_apply hd i), scatter2 _ _ _ dst (raw_apply hd)]
  pointwise
  unfold att inSum guard
  simp

theorem msg_apply (hs : Names vs src) (hd : Names vd dst) (z : FVec Ideal S4000x50x64 .f32) (α : FVec Ideal S4000x200 .f32)
    (p : Fin 4000) (n : Fin 50) (j : Fin 64) :
    rMsg z α vs vd (ix3 p n j) = msg src dst (fun i => α (ix2 p i)) (fun n j => z (ix3 p n j)) n j := by
  unfold rMsg
  rw [scatter3 _ _ _ dst (raw_apply hd)]
  pointwise
  unfold msg
  refine Finset.sum_congr rfl fun i _ => ?_
  rw [gather3 z _ p i j (src i) (norm_apply hs i)]

theorem out_apply (m h : FVec Ideal S4000x50x64 .f32) (p : Fin 4000) (n : Fin 50) (j : Fin 64) :
    rOut m h (ix3 p n j) = ramp (m (ix3 p n j)) + h (ix3 p n j) := by
  unfold rOut
  pointwise
  rw [show id (constant (F := Ideal) S_ .f32 0#32) ix0 = 0 from Ideal.ofBits_zero_f32]
  rw [← ramp_sel, one_mul]

/-- The reference's layer on one patch is the layer of Spec.lean on that patch. -/
theorem layer_apply (hs : Names vs src) (hd : Names vd dst) (W : FVec Ideal S64x64 .f32) (a b : FVec Ideal S64 .f32)
    (ew : FVec Ideal S4000x200x16 .f32) (we : FVec Ideal S16 .f32) (h : FVec Ideal S4000x50x64 .f32) (p : Fin 4000) (n : Fin 50)
    (j : Fin 64) :
    rLayer vs vd W a b ew we h (ix3 p n j)
      = layer src dst (fun k j => W (ix2 k j)) (fun j => a (ix1 j)) (fun j => b (ix1 j))
          (fun i => ∑ d : Fin 16, ew (ix3 p i d) * we (ix1 d)) (fun n k => h (ix3 p n k)) n j := by
  unfold rLayer layer logit
  simp only [out_apply, msg_apply hs hd, att_apply hd, wt_apply, lk_apply, pre_apply hs hd, lin_apply]

/-! ## The reference's three layers are this one -/

section Res
open Cert.ReferenceIdeal.Value StableHlo

variable (V0 : Valuation τ sig (Elt Ideal))

theorem res67 : res_main_v67 V0 = rLayer (res_main_v1 V0) (res_main_v3 V0) (V0 (Proc.devRef .tc main_arg3)) (V0 (Proc.devRef .tc main_arg6))
    (V0 (Proc.devRef .tc main_arg9)) (V0 (Proc.devRef .tc main_arg2)) (V0 (Proc.devRef .tc main_arg12)) (V0 (Proc.devRef .tc main_arg0)) := rfl
theorem res131 : res_main_v131 V0 = rLayer (res_main_v1 V0) (res_main_v3 V0) (V0 (Proc.devRef .tc main_arg4)) (V0 (Proc.devRef .tc main_arg7))
    (V0 (Proc.devRef .tc main_arg10)) (V0 (Proc.devRef .tc main_arg2)) (V0 (Proc.devRef .tc main_arg13)) (res_main_v67 V0) := rfl
theorem res193 : res_main_v193 V0 = rMsg (rLin (res_main_v131 V0) (V0 (Proc.devRef .tc main_arg5)))
    (rAtt (rWt (rLk (rPre (rLin (res_main_v131 V0) (V0 (Proc.devRef .tc main_arg5))) (res_main_v1 V0) (res_main_v3 V0)
      (V0 (Proc.devRef .tc main_arg8)) (V0 (Proc.devRef .tc main_arg11)) (V0 (Proc.devRef .tc main_arg2)) (V0 (Proc.devRef .tc main_arg14)))))
      (res_main_v3 V0)) (res_main_v1 V0) (res_main_v3 V0) := rfl

end Res

end Cert.Proof.R
-- ==== Proof.RRead.lean ====
/-
  The reference's readout at an index, and its whole result: the three layers' means over all nodes of all patches,
  against the three row blocks of the classifier.
-/
module

public import proofs.«01_k».proof.Proof.RLayer

@[expose] public section

set_option maxRecDepth 16384

noncomputable section

namespace Cert.Proof

open Idealize.ShloMosaic
open scoped BigOperators

/-- The mean of a layer's column over all nodes of all patches. -/
def mean (H : Fin 4000 → Fin 50 → Fin 64 → EReal) (j : Fin 64) : EReal := (∑ p, ∑ n, H p n j) * ((1 / 200000 : ℝ) : EReal)

/-- The readout: the three means against the classifier's three row blocks. -/
def readout (H0 H1 H2 : Fin 4000 → Fin 50 → Fin 64 → EReal) (C : Fin 192 → Fin 16 → EReal) (o : Fin 16) : EReal :=
  (∑ j : Fin 64, mean H0 j * C ⟨j.val, by omega⟩ o) + (∑ j : Fin 64, mean H1 j * C ⟨64 + j.val, by omega⟩ o)
    + ∑ j : Fin 64, mean H2 j * C ⟨128 + j.val, by omega⟩ o

/-- A mean over the nodes and then over the patches is the mean over both. -/
theorem mean_eq {H : Fin 4000 → Fin 50 → Fin 64 → EReal} (hH : ∀ p n j, IsR (H p n j)) (j : Fin 64) :
    Ideal.div (∑ p, Ideal.div (∑ n, H p n j) ((50 : ℝ) : EReal)) ((4000 : ℝ) : EReal) = mean H j := by
  choose H' hH' using hH
  unfold mean
  simp only [hH', Ideal.div_coe (show (50 : ℝ) ≠ 0 by norm_num), Ideal.div_coe (show (4000 : ℝ) ≠ 0 by norm_num), ← coe_sum,
    ← EReal.coe_mul]
  refine congrArg Real.toEReal ?_
  rw [← Finset.sum_mul, mul_assoc]
  norm_num

theorem ofBits_50 : Ideal.ofBits .f32 0x42480000#32 = ((50 : ℝ) : EReal) := by
  simp [Ideal.ofBits, Ideal.ieee]; rw [← EReal.coe_mul]; norm_num
theorem ofBits_4000 : Ideal.ofBits .f32 0x457A0000#32 = ((4000 : ℝ) : EReal) := by
  simp [Ideal.ofBits, Ideal.ieee]; rw [← EReal.coe_mul]; norm_num

/-- A sum over the 192 columns is the sum over the three layers' 64. -/
theorem sum_192 (f : Fin 192 → EReal) : ∑ c, f c
    = (∑ j : Fin 64, f ⟨j.val, by omega⟩) + (∑ j : Fin 64, f ⟨64 + j.val, by omega⟩) + ∑ j : Fin 64, f ⟨128 + j.val, by omega⟩ := by
  rw [Fin.sum_univ_two_halves 128 64 rfl f, Fin.sum_univ_two_halves 64 64 rfl (fun k : Fin 128 => f ⟨k.val, _⟩)]

namespace R

open Cert.ReferenceIdeal Cert.ReferenceIdeal.Gen

/-- The three layers side by side. -/
def rCat (H0 H1 H2 : FVec Ideal S4000x50x64 .f32) : FVec Ideal S4000x50x192 .f32 :=
  concatenate S4000x50x192 2 [⟨S4000x50x64, H0⟩, ⟨S4000x50x64, H1⟩, ⟨S4000x50x64, H2⟩]
    concatenates_S4000x50x64_S4000x50x64_S4000x50x64_S4000x50x192_d2

/-- The readout of the reference. -/
def rRead (X : FVec Ideal S4000x50x192 .f32) (C : FVec Ideal S192x16 .f32) : FVec Ideal S1x16 .f32 :=
  Host.dotGeneral (φ₁ := .f32) (φ₂ := .f32) dot_S1x192_S192x16_S1x16_1_0_0_1_n_n none
    (Host.divf (broadcastInDim S1x192 ![1] bcast_S192_S1x192_1
      (Host.reduceAdd (Host.divf (Host.reduceAdd X (constant (F := Ideal) S_ .f32 0x00000000#32) reducesTo_S4000x50x192_S4000x192_d1 h_S_)
        (broadcastInDim S4000x192 ![] bcast_S_S4000x192 (constant S_ .f32 0x42480000#32)))
        (constant (F := Ideal) S_ .f32 0x00000000#32) reducesTo_S4000x192_S192_d0 h_S_))
      (broadcastInDim S1x192 ![] bcast_S_S1x192 (constant S_ .f32 0x457A0000#32))) C

theorem cat0 (H0 H1 H2 : FVec Ideal S4000x50x64 .f32) (p : Fin 4000) (n : Fin 50) (j : Fin 64) :
    rCat H0 H1 H2 (ix3 p n ⟨j.val, by omega⟩) = H0 (ix3 p n j) := by
  unfold rCat; pointwise
theorem cat1 (H0 H1 H2 : FVec Ideal S4000x50x64 .f32) (p : Fin 4000) (n : Fin 50) (j : Fin 64) :
    rCat H0 H1 H2 (ix3 p n ⟨64 + j.val, by omega⟩) = H1 (ix3 p n j) := by
  unfold rCat; pointwise
theorem cat2 (H0 H1 H2 : FVec Ideal S4000x50x64 .f32) (p : Fin 4000) (n : Fin 50) (j : Fin 64) :
    rCat H0 H1 H2 (ix3 p n ⟨128 + j.val, by omega⟩) = H2 (ix3 p n j) := by
  unfold rCat; pointwise
  rw [dif_neg (by omega), dif_neg (by omega)]
  exact congrArg (fun k => H2 (ix3 p n k)) (Fin.ext (by show 128 + j.val - 64 - 64 = j.val; omega))

theorem read_apply (H0 H1 H2 : FVec Ideal S4000x50x64 .f32) (C : FVec Ideal S192x16 .f32)
    (h0 : ∀ p n j, IsR (H0 (ix3 p n j))) (h1 : ∀ p n j, IsR (H1 (ix3 p n j))) (h2 : ∀ p n j, IsR (H2 (ix3 p n j))) (o : Fin 16) :
    rRead (rCat H0 H1 H2) C (ix2 0 o)
      = readout (fun p n j => H0 (ix3 p n j)) (fun p n j => H1 (ix3 p n j)) (fun p n j => H2 (ix3 p n j))
          (fun c o => C (ix2 c o)) o := by
  unfold rRead
  generalize hX : rCat H0 H1 H2 = X
  pointwise
  rw [sum_192]
  subst hX
  simp only [cat0, cat1, cat2, ofBits_50, ofBits_4000]
  unfold readout
  rw [← funext (mean_eq h0), ← funext (mean_eq h1), ← funext (mean_eq h2)]

section Res
open Cert.ReferenceIdeal.Value StableHlo Idealize.SL.Sem

/-- The reference's third layer's output, as its result's term spells it. -/
def third (V0 : Valuation τ sig (Elt Ideal)) : FVec Ideal S4000x50x64 .f32 :=
  rLayer (res_main_v1 V0) (res_main_v3 V0) (V0 (Proc.devRef .tc main_arg5)) (V0 (Proc.devRef .tc main_arg8))
    (V0 (Proc.devRef .tc main_arg11)) (V0 (Proc.devRef .tc main_arg2)) (V0 (Proc.devRef .tc main_arg14)) (res_main_v131 V0)

/-- The reference's run: its result is the readout of its three layers, its arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v204)
        = rRead (rCat (res_main_v67 (launchContents m c)) (res_main_v131 (launchContents m c)) (third (launchContents m c)))
            ((launchContents m c) (Proc.devRef .tc main_arg15)) :=
  (θ_run defs _ _).mono (fun _ h c => (h c).1) (Cert.ReferenceIdeal.Value.run m ρ)

end Res

end R

end Cert.Proof
-- ==== Proof.Net.lean ====
/-
  The whole network over the arguments' arrays: three layers one after the other on every patch, then the readout.
  The kernel's result and the reference's are both this number.
-/
module

public import proofs.«01_k».proof.Proof.RRead

@[expose] public section

noncomputable section

namespace Cert.Proof

open Idealize.ShloMosaic
open scoped BigOperators

/-- One layer on every patch, its parameters read off their arrays. -/
def nt (src dst : Fin 200 → Fin 50) (W : FVec Ideal ⟨2, ![64, 64]⟩ .f32) (a b : FVec Ideal ⟨1, ![64]⟩ .f32)
    (ew : FVec Ideal ⟨3, ![4000, 200, 16]⟩ .f32) (we : FVec Ideal ⟨1, ![16]⟩ .f32) (H : Fin 4000 → Fin 50 → Fin 64 → EReal) :
    Fin 4000 → Fin 50 → Fin 64 → EReal :=
  fun p n j => layer src dst (fun k j => W (ix2 k j)) (fun j => a (ix1 j)) (fun j => b (ix1 j))
    (fun i => ∑ d : Fin 16, ew (ix3 p i d) * we (ix1 d)) (H p) n j

/-- A layer's outputs are real where its inputs and its projection are. -/
theorem nt_real (src dst : Fin 200 → Fin 50) {W : FVec Ideal ⟨2, ![64, 64]⟩ .f32} (a b : FVec Ideal ⟨1, ![64]⟩ .f32)
    (ew : FVec Ideal ⟨3, ![4000, 200, 16]⟩ .f32) (we : FVec Ideal ⟨1, ![16]⟩ .f32) {H : Fin 4000 → Fin 50 → Fin 64 → EReal}
    (hW : ∀ k j, IsR (W (ix2 k j))) (hH : ∀ p n k, IsR (H p n k)) (p : Fin 4000) (n : Fin 50) (j : Fin 64) :
    IsR (nt src dst W a b ew we H p n j) :=
  layer_real src dst _ _ _ (hH p) hW n j

/-- The three layers and the readout. -/
def whole (src dst : Fin 200 → Fin 50) (x : FVec Ideal ⟨3, ![4000, 50, 64]⟩ .f32) (ew : FVec Ideal ⟨3, ![4000, 200, 16]⟩ .f32)
    (W0 W1 W2 : FVec Ideal ⟨2, ![64, 64]⟩ .f32) (a0 a1 a2 b0 b1 b2 : FVec Ideal ⟨1, ![64]⟩ .f32)
    (e0 e1 e2 : FVec Ideal ⟨1, ![16]⟩ .f32) (C : FVec Ideal ⟨2, ![192, 16]⟩ .f32) (o : Fin 16) : EReal :=
  readout (nt src dst W0 a0 b0 ew e0 fun p n k => x (ix3 p n k))
    (nt src dst W1 a1 b1 ew e1 (nt src dst W0 a0 b0 ew e0 fun p n k => x (ix3 p n k)))
    (nt src dst W2 a2 b2 ew e2 (nt src dst W1 a1 b1 ew e1 (nt src dst W0 a0 b0 ew e0 fun p n k => x (ix3 p n k))))
    (fun c o => C (ix2 c o)) o

namespace R

open Cert.ReferenceIdeal Cert.ReferenceIdeal.Gen Cert.ReferenceIdeal.Value StableHlo Idealize.SL.Sem

variable (V0 : Valuation τ sig (Elt Ideal))

/-- The first row of the edge list, as the reference cuts it out. -/
theorem src_names (src : Fin 200 → Fin 50)
    (h : ∀ i : Fin 200, (V0 (Proc.devRef .tc main_arg1) : IVec S2x200 32) (ix2 0 i) = BitVec.ofNat 32 (src i).val) :
    Names (res_main_v1 V0) src := by
  intro i
  unfold res_main_v1
  rw [← h i]
  generalize (V0 (Proc.devRef .tc main_arg1) : IVec S2x200 32) = v
  pointwise

/-- The second row of the edge list. -/
theorem dst_names (dst : Fin 200 → Fin 50)
    (h : ∀ i : Fin 200, (V0 (Proc.devRef .tc main_arg1) : IVec S2x200 32) (ix2 1 i) = BitVec.ofNat 32 (dst i).val) :
    Names (res_main_v3 V0) dst := by
  intro i
  unfold res_main_v3
  rw [← h i]
  generalize (V0 (Proc.devRef .tc main_arg1) : IVec S2x200 32) = v
  pointwise

/-- The reference's result is the network's. -/
theorem result_apply (src dst : Fin 200 → Fin 50)
    (hs : ∀ i : Fin 200, (V0 (Proc.devRef .tc main_arg1) : IVec S2x200 32) (ix2 0 i) = BitVec.ofNat 32 (src i).val)
    (hd : ∀ i : Fin 200, (V0 (Proc.devRef .tc main_arg1) : IVec S2x200 32) (ix2 1 i) = BitVec.ofNat 32 (dst i).val)
    (hx : ∀ p n k, IsR ((V0 (Proc.devRef .tc main_arg0) : FVec Ideal S4000x50x64 .f32) (ix3 p n k)))
    (h0 : ∀ k j, IsR ((V0 (Proc.devRef .tc main_arg3) : FVec Ideal S64x64 .f32) (ix2 k j)))
    (h1 : ∀ k j, IsR ((V0 (Proc.devRef .tc main_arg4) : FVec Ideal S64x64 .f32) (ix2 k j)))
    (h2 : ∀ k j, IsR ((V0 (Proc.devRef .tc main_arg5) : FVec Ideal S64x64 .f32) (ix2 k j))) (o : Fin 16) :
    rRead (rCat (res_main_v67 V0) (res_main_v131 V0) (third V0)) (V0 (Proc.devRef .tc main_arg15)) (ix2 0 o)
      = whole src dst (V0 (Proc.devRef .tc main_arg0)) (V0 (Proc.devRef .tc main_arg2)) (V0 (Proc.devRef .tc main_arg3))
          (V0 (Proc.devRef .tc main_arg4)) (V0 (Proc.devRef .tc main_arg5)) (V0 (Proc.devRef .tc main_arg6))
          (V0 (Proc.devRef .tc main_arg7)) (V0 (Proc.devRef .tc main_arg8)) (V0 (Proc.devRef .tc main_arg9))
          (V0 (Proc.devRef .tc main_arg10)) (V0 (Proc.devRef .tc main_arg11)) (V0 (Proc.devRef .tc main_arg12))
          (V0 (Proc.devRef .tc main_arg13)) (V0 (Proc.devRef .tc main_arg14)) (V0 (Proc.devRef .tc main_arg15)) o := by
  have ns := src_names V0 src hs
  have nd := dst_names V0 dst hd
  have e0 : ∀ p n j, res_main_v67 V0 (ix3 p n j) = nt src dst (V0 (Proc.devRef .tc main_arg3)) (V0 (Proc.devRef .tc main_arg6))
      (V0 (Proc.devRef .tc main_arg9)) (V0 (Proc.devRef .tc main_arg2)) (V0 (Proc.devRef .tc main_arg12))
      (fun p n k => (V0 (Proc.devRef .tc main_arg0) : FVec Ideal S4000x50x64 .f32) (ix3 p n k)) p n j := by
    intro p n j
    rw [res67]
    exact layer_apply ns nd _ _ _ _ _ _ p n j
  have r0 : ∀ p n j, IsR (res_main_v67 V0 (ix3 p n j)) := fun p n j => by
    rw [e0]; exact nt_real src dst _ _ _ _ h0 hx p n j
  have e1 : ∀ p n j, res_main_v131 V0 (ix3 p n j) = nt src dst (V0 (Proc.devRef .tc main_arg4)) (V0 (Proc.devRef .tc main_arg7))
      (V0 (Proc.devRef .tc main_arg10)) (V0 (Proc.devRef .tc main_arg2)) (V0 (Proc.devRef .tc main_arg13))
      (fun p n k => res_main_v67 V0 (ix3 p n k)) p n j := by
    intro p n j
    rw [res131]
    exact layer_apply ns nd _ _ _ _ _ _ p n j
  have r1 : ∀ p n j, IsR (res_main_v131 V0 (ix3 p n j)) := fun p n j => by
    rw [e1]; exact nt_real src dst _ _ _ _ h1 r0 p n j
  have e2 : ∀ p n j, third V0 (ix3 p n j) = nt src dst (V0 (Proc.devRef .tc main_arg5)) (V0 (Proc.devRef .tc main_arg8))
      (V0 (Proc.devRef .tc main_arg11)) (V0 (Proc.devRef .tc main_arg2)) (V0 (Proc.devRef .tc main_arg14))
      (fun p n k => res_main_v131 V0 (ix3 p n k)) p n j := by
    intro p n j
    exact layer_apply ns nd _ _ _ _ _ _ p n j
  have r2 : ∀ p n j, IsR (third V0 (ix3 p n j)) := fun p n j => by
    rw [e2]; exact nt_real src dst _ _ _ _ h2 r1 p n j
  have f0 := funext fun p => funext fun n => funext fun j => e0 p n j
  have f1 := funext fun p => funext fun n => funext fun j => e1 p n j
  have f2 := funext fun p => funext fun n => funext fun j => e2 p n j
  refine (read_apply _ _ _ _ r0 r1 r2 o).trans ?_
  rw [f2, f1, f0]
  rfl

end R

end Cert.Proof

end
-- ==== Proof.KNet.lean ====
/-
  The kernel's result is the network's: its blocks' layers are the patches' layers, and its sums over the blocks are the
  sums over all patches.
-/
module

public import proofs.«01_k».proof.Proof.KFold
public import proofs.«01_k».proof.Proof.Net

@[expose] public section

set_option maxRecDepth 16384

noncomputable section

open Idealize.ShloMosaic Idealize.ShloMosaic.TcCoe Idealize.SL.Sem
open Cert.KernelIdeal Cert.KernelIdeal.Gen Cert.KernelIdeal.Value
open scoped BigOperators

namespace Cert.Proof.K

/-- A layer on a point's block is the layer on the block's patches. -/
theorem lay_apply {src dst : Fin 200 → Fin 50} (t : Fin cfg0.N) {ei : IVec S2x200 32} {ewb : FVec Ideal S200x3200 .f32}
    {web : FVec Ideal S1x16 .f32} {ab bb : FVec Ideal S1x64 .f32} {Wb : FVec Ideal S64x64 .f32} {hb : FVec Ideal S200x50x64 .f32}
    {W : FVec Ideal S64x64 .f32} {a b : FVec Ideal S64 .f32} {ew : FVec Ideal S4000x200x16 .f32} {we : FVec Ideal S16 .f32}
    {H : Fin 4000 → Fin 50 → Fin 64 → EReal}
    (hs : ∀ i : Fin 200, ei (Idealize.ShloMosaic.ix2 0 i) = BitVec.ofNat 32 (src i).val)
    (hd : ∀ i : Fin 200, ei (Idealize.ShloMosaic.ix2 1 i) = BitVec.ofNat 32 (dst i).val)
    (hew : ∀ (p i : Fin 200) (d : Fin 16), ewb (Idealize.ShloMosaic.ix2 p ⟨16 * i.val + d.val, by omega⟩) = ew (ix3 (pat t p) i d))
    (hwe : ∀ d : Fin 16, web (Idealize.ShloMosaic.ix2 0 d) = we (ix1 d))
    (ha : ∀ j : Fin 64, ab (Idealize.ShloMosaic.ix2 0 j) = a (ix1 j)) (hb' : ∀ j : Fin 64, bb (Idealize.ShloMosaic.ix2 0 j) = b (ix1 j))
    (hW : Wb = W) (hh : ∀ p n k, hb (ix3 p n k) = H (pat t p) n k)
    (rH : ∀ p n k, IsR (H p n k)) (rW : ∀ k j, IsR (W (Idealize.ShloMosaic.ix2 k j))) (ra : ∀ j, IsR (a (ix1 j))) (rb : ∀ j, IsR (b (ix1 j)))
    (p : Fin 200) (n : Fin 50) (j : Fin 64) :
    lay ei ewb web ab bb Wb hb (ix3 p n j) = nt src dst W a b ew we H (pat t p) n j := by
  subst hW
  unfold lay nt
  rw [layer_apply (src := src) (dst := dst) (fun m i => src_apply ei m i _ (hs i)) (fun m i => dst_apply ei m i _ (hd i))
    (fun i m => scat_apply ei i m _ _ (hs i) (hd i)) _ hb ab bb Wb (fun p n k => by rw [hh]; exact rH _ n k) rW
    (fun j => by rw [ha]; exact ra j) (fun j => by rw [hb']; exact rb j) p n j]
  simp only [edge_apply, hew, hwe, ha, hb', hh]

variable (m : (ℓ : Loc nD τ sig) → Buf (Elt Ideal) ℓ) (c : Dev nD)

/-- A sum over the points and their patches is the sum over all patches. -/
theorem sum_patches (f : Fin 4000 → EReal) :
    ∑ t : Fin 20, ∑ p : Fin 200, f (pat ⟨t.val, lt_of_lt_of_eq t.isLt N_0.symm⟩ p) = ∑ p, f p := by
  rw [Fin.sum_univ_tiles 20 200 rfl f]
  refine Finset.sum_congr rfl fun t _ => Finset.sum_congr rfl fun p _ => congrArg f (Fin.ext ?_)
  show 200 * t.val + p.val = t.val * 200 + p.val
  omega

/-- The kernel's result at an index is the network's. -/
theorem net_apply (src dst : Fin 200 → Fin 50)
    (hs : ∀ i : Fin 200, (m ((c : Thread nD τ).loc main_arg1) : IVec S2x200 32) (Idealize.ShloMosaic.ix2 0 i) = BitVec.ofNat 32 (src i).val)
    (hd : ∀ i : Fin 200, (m ((c : Thread nD τ).loc main_arg1) : IVec S2x200 32) (Idealize.ShloMosaic.ix2 1 i) = BitVec.ofNat 32 (dst i).val)
    (hx : ∀ p n k, IsR ((m ((c : Thread nD τ).loc main_arg0) : FVec Ideal S4000x50x64 .f32) (ix3 p n k)))
    (h0 : ∀ k j, IsR ((m ((c : Thread nD τ).loc main_arg3) : FVec Ideal S64x64 .f32) (Idealize.ShloMosaic.ix2 k j)))
    (h1 : ∀ k j, IsR ((m ((c : Thread nD τ).loc main_arg4) : FVec Ideal S64x64 .f32) (Idealize.ShloMosaic.ix2 k j)))
    (h2 : ∀ k j, IsR ((m ((c : Thread nD τ).loc main_arg5) : FVec Ideal S64x64 .f32) (Idealize.ShloMosaic.ix2 k j)))
    (a0 : ∀ j, IsR ((m ((c : Thread nD τ).loc main_arg6) : FVec Ideal S64 .f32) (ix1 j)))
    (a1 : ∀ j, IsR ((m ((c : Thread nD τ).loc main_arg7) : FVec Ideal S64 .f32) (ix1 j)))
    (a2 : ∀ j, IsR ((m ((c : Thread nD τ).loc main_arg8) : FVec Ideal S64 .f32) (ix1 j)))
    (b0 : ∀ j, IsR ((m ((c : Thread nD τ).loc main_arg9) : FVec Ideal S64 .f32) (ix1 j)))
    (b1 : ∀ j, IsR ((m ((c : Thread nD τ).loc main_arg10) : FVec Ideal S64 .f32) (ix1 j)))
    (b2 : ∀ j, IsR ((m ((c : Thread nD τ).loc main_arg11) : FVec Ideal S64 .f32) (ix1 j))) (o : Fin 16) :
    G16 m c (Idealize.ShloMosaic.ix2 0 o)
      = whole src dst (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) o := by
  have s : ∀ (t : Fin cfg0.N) (i : Fin 200), (iblk m c 2 t : IVec S2x200 32) (Idealize.ShloMosaic.ix2 0 i) = BitVec.ofNat 32 (src i).val :=
    fun t i => (congrFun (blk_2 m c t) _).trans (hs i)
  have d : ∀ (t : Fin cfg0.N) (i : Fin 200), (iblk m c 2 t : IVec S2x200 32) (Idealize.ShloMosaic.ix2 1 i) = BitVec.ofNat 32 (dst i).val :=
    fun t i => (congrFun (blk_2 m c t) _).trans (hd i)
  have o1 := fun (t : Fin cfg0.N) => lay_apply t (s t) (d t) (blk_ew m c t) (blk_12 m c t) (blk_6 m c t) (blk_9 m c t) (blk_3 m c t)
    (H := fun p n k => (m ((c : Thread nD τ).loc main_arg0) : FVec Ideal S4000x50x64 .f32) (ix3 p n k)) (blk_x m c t) hx h0 a0 b0
  have o2 := fun (t : Fin cfg0.N) => lay_apply t (s t) (d t) (blk_ew m c t) (blk_13 m c t) (blk_7 m c t) (blk_10 m c t) (blk_4 m c t)
    (hb := out1 m c t) (o1 t) (nt_real src dst _ _ _ _ h0 hx) h1 a1 b1
  have o3 := fun (t : Fin cfg0.N) => lay_apply t (s t) (d t) (blk_ew m c t) (blk_14 m c t) (blk_8 m c t) (blk_11 m c t) (blk_5 m c t)
    (hb := out2 m c t) (o2 t) (nt_real src dst _ _ _ _ h1 (nt_real src dst _ _ _ _ h0 hx)) h2 a2 b2
  rw [result_apply]
  unfold whole readout mean
  have q : ∀ (l : Fin 3) (H : Fin 4000 → Fin 50 → Fin 64 → EReal) (_ : ∀ t p n j, out m c l t (ix3 p n j) = H (pat t p) n j) (j : Fin 64),
      ∑ t : Fin 20, tot m c l j ⟨t.val, lt_of_lt_of_eq t.isLt N_0.symm⟩ = ∑ p, ∑ n, H p n j := by
    intro l H h j
    rw [← sum_patches]
    refine Finset.sum_congr rfl fun t _ => ?_
    unfold tot
    exact Finset.sum_congr rfl fun p _ => Finset.sum_congr rfl fun n _ => h _ p n j
  simp only [q 0 _ o1, q 1 _ o2, q 2 _ o3]

end Cert.Proof.K

end
-- ==== Proof.Pre.lean ====
/-
  What the precondition says: every edge names two of the fifty nodes, and the features, the projections and the attention
  vectors are real numbers.
-/
module

public import proofs.«01_k».proof.Defs
public import proofs.«01_k».proof.Proof.Spec
public import Idealize.ShloMosaic.Lib.ReduceAll
public import Idealize.ShloMosaic.Lib.Affine
public import Idealize.ShloMosaic.Lib.Pointwise

@[expose] public section

set_option maxRecDepth 16384

noncomputable section

namespace Cert.Proof.Pre

open Idealize.ShloMosaic Cert.Pre_inputs_ok

/-- The precondition's shape relations hold. -/
theorem facts : Cert.Pre_inputs_ok.Facts where
  bcast_S_S2x200 := by decide
  reducesTo_S2x200_S_d0_1 := by decide
  h_S_ := by decide
  bcast_S_S4000x50x64 := by decide
  reducesTo_S4000x50x64_S_d0_1_2 := by decide
  bcast_S_S64x64 := by decide
  reducesTo_S64x64_S_d0_1 := by decide
  bcast_S_S64 := by decide
  reducesTo_S64_S_d0 := by decide

instance : Subsingleton S_.Idx := ⟨fun _ _ => funext fun a => a.elim0⟩

/-- The word the absolute values stay below denotes infinity. -/
theorem ofBits_inf : Ideal.ofBits .f32 0x7F800000#32 = ⊤ := by simp [Ideal.ofBits, Ideal.ieee]

/-- A number whose absolute value compares below infinity is real. -/
theorem isR_of_cmp {x : EReal} (h : Ideal.cmp .olt (max x (-x)) (Ideal.ofBits .f32 0x7F800000#32) = 1#1) : IsR x := by
  rw [ofBits_inf] at h
  have h' : max x (-x) < ⊤ := (Ideal.cmp_olt_eq_one _ _).1 h
  rw [max_lt_iff] at h'
  refine isR_of_abs_lt h'.1.ne fun e => ?_
  rw [e] at h'
  simp at h'

/-- A word from 0 up to 50, compared as a signed number, is a node's number. -/
theorem node_of_cmp {x : BitVec 32} (h : IntOp.andi (IntOp.cmpi .sge x 0#32) (IntOp.cmpi .slt x 50#32) = 1#1) :
    ∃ s : Fin 50, x = BitVec.ofNat 32 s.val := by
  obtain ⟨h1, h2⟩ := IntOp.andi_eq_one.1 h
  have h1 := IntOp.cmpi_sge.1 h1
  have h2 := IntOp.cmpi_slt.1 h2
  have e0 : (0#32).toInt = 0 := by decide
  have e50 : (50#32).toInt = 50 := by decide
  rw [e0] at h1
  rw [e50] at h2
  have hx := x.isLt
  rw [BitVec.toInt_eq_toNat_cond] at h1 h2
  refine ⟨⟨x.toNat, by split at h1 <;> omega⟩, ?_⟩
  simp

variable [Cert.Pre_inputs_ok.Facts]
open Cert.Pre_inputs_ok.Facts

/-- An array whose test is one holds real numbers. -/
theorem real_of_all {s : Shape} {axes : List (Fin s.rank)} (x : FVec Ideal s .f32) (hb : S_.BroadcastsInDim s (![] : Fin 0 → Fin s.rank))
    (hr : s.ReducesTo axes S_)
    (h : Host.reduce IntOp.andi (cmpf .olt (Host.absf x) (broadcastInDim s ![] hb (constant (F := Ideal) S_ .f32 0x7F800000#32)))
      (constantI S_ 1 1#1) hr h_S_ ix0 = 1#1) (i : s.Idx) : IsR (x i) :=
  isR_of_cmp (Host.reduce_andi_all _ _ hr h_S_ ix0 h i)

/-- What the precondition says of the arguments. -/
theorem of_fn (x : FVec Ideal S4000x50x64 .f32) (ei : IVec S2x200 32) (ew : FVec Ideal S4000x200x16 .f32) (W0 W1 W2 : FVec Ideal S64x64 .f32)
    (a0 a1 a2 b0 b1 b2 : FVec Ideal S64 .f32) (e0 e1 e2 : FVec Ideal S16 .f32) (C : FVec Ideal S192x16 .f32)
    (h : Cert.Pre_inputs_ok.fn (F := Ideal) x ei ew W0 W1 W2 a0 a1 a2 b0 b1 b2 e0 e1 e2 C = fun _ => 1#1) :
    (∀ i, ∃ s : Fin 50, ei i = BitVec.ofNat 32 s.val) ∧ (∀ i, IsR (x i)) ∧ (∀ i, IsR (W0 i)) ∧ (∀ i, IsR (W1 i)) ∧ (∀ i, IsR (W2 i))
      ∧ (∀ i, IsR (a0 i)) ∧ (∀ i, IsR (a1 i)) ∧ (∀ i, IsR (a2 i)) ∧ (∀ i, IsR (b0 i)) ∧ (∀ i, IsR (b1 i)) ∧ (∀ i, IsR (b2 i)) := by
  have h := congrFun h ix0
  obtain ⟨h, hb2⟩ := IntOp.andi_eq_one.1 h
  obtain ⟨h, hb1⟩ := IntOp.andi_eq_one.1 h
  obtain ⟨h, hb0⟩ := IntOp.andi_eq_one.1 h
  obtain ⟨h, ha2⟩ := IntOp.andi_eq_one.1 h
  obtain ⟨h, ha1⟩ := IntOp.andi_eq_one.1 h
  obtain ⟨h, ha0⟩ := IntOp.andi_eq_one.1 h
  obtain ⟨h, hW2⟩ := IntOp.andi_eq_one.1 h
  obtain ⟨h, hW1⟩ := IntOp.andi_eq_one.1 h
  obtain ⟨h, hW0⟩ := IntOp.andi_eq_one.1 h
  obtain ⟨h, hx⟩ := IntOp.andi_eq_one.1 h
  exact ⟨fun i => node_of_cmp (Host.reduce_andi_all _ _ _ h_S_ ix0 h i), real_of_all x _ _ hx, real_of_all W0 _ _ hW0,
    real_of_all W1 _ _ hW1, real_of_all W2 _ _ hW2, real_of_all a0 _ _ ha0, real_of_all a1 _ _ ha1, real_of_all a2 _ _ ha2,
    real_of_all b0 _ _ hb0, real_of_all b1 _ _ hb1, real_of_all b2 _ _ hb2⟩

end Cert.Proof.Pre

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import Idealize.ShloMosaic.Adequacy
public import Idealize.ShloMosaic.Lib.Claim
public import Idealize.ShloMosaic.Lib.Quiescent
public import Idealize.ShloMosaic.Init
public import proofs.«01_k».proof.Proof.KNet
public import proofs.«01_k».proof.Proof.Pre

@[expose] public section

noncomputable section

namespace Cert.Proof

open Idealize.ShloMosaic Idealize.SL.Sem

/-- The reference runs, keeps its arguments, and declares no semaphore. -/
theorem reference_frame : Cert.quiescent_ReferenceIdeal (hReferenceIdeal := Cert.ReferenceIdeal.Gen.facts) := fun m g _ =>
  (θ_run (Cert.ReferenceIdeal.defs (F := Ideal)) _ _).mono
    (fun r h => And.intro (fun c => (h c).2) (Idealize.ShloMosaic.sem_eq_zero_of_no_sems (by decide) r.2))
    (Cert.ReferenceIdeal.Value.run (F := Ideal) m g)

/-- On arguments the precondition allows, the two programs' results are one number, index by index. -/
theorem results_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    [hf : Cert.Pre_inputs_ok.Facts] (h : Cert.Pre_KernelIdeal_inputs_ok m)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10))
    (h11 : V0 (Proc.devRef .tc Cert.ReferenceIdeal.main_arg11) = m ((c.tc : Thread Cert.KernelIdeal.nD Cert.KernelIdeal.τ).loc Cert.KernelIdeal.main_arg11))
    (h12 : V0 (Proc.devRef .tc Cert.ReferenceIdeal.main_arg12) = m ((c.tc : Thread Cert.KernelIdeal.nD Cert.KernelIdeal.τ).loc Cert.KernelIdeal.main_arg12))
    (h13 : V0 (Proc.devRef .tc Cert.ReferenceIdeal.main_arg13) = m ((c.tc : Thread Cert.KernelIdeal.nD Cert.KernelIdeal.τ).loc Cert.KernelIdeal.main_arg13))
    (h14 : V0 (Proc.devRef .tc Cert.ReferenceIdeal.main_arg14) = m ((c.tc : Thread Cert.KernelIdeal.nD Cert.KernelIdeal.τ).loc Cert.KernelIdeal.main_arg14))
    (h15 : V0 (Proc.devRef .tc Cert.ReferenceIdeal.main_arg15) = m ((c.tc : Thread Cert.KernelIdeal.nD Cert.KernelIdeal.τ).loc Cert.KernelIdeal.main_arg15)) :
    R.rRead (R.rCat (Cert.ReferenceIdeal.Value.res_main_v67 V0) (Cert.ReferenceIdeal.Value.res_main_v131 V0) (R.third V0))
        (V0 (Proc.devRef .tc Cert.ReferenceIdeal.main_arg15))
      = Cert.KernelIdeal.Value.G16 m c := by
  obtain ⟨he, hx, w0, w1, w2, a0, a1, a2, b0, b1, b2⟩ := Pre.of_fn _ _ _ _ _ _ _ _ _ _ _ _ _ _ _ _ (h c)
  choose s hs using he
  funext u
  obtain ⟨z, o, rfl⟩ : ∃ z o, u = Idealize.ShloMosaic.ix2 z o := ⟨u 0, u 1, ValueIdx.eq_ix2 u⟩
  obtain rfl : z = 0 := Fin.ext (by omega)
  rw [K.net_apply m c (fun i => s (Idealize.ShloMosaic.ix2 0 i)) (fun i => s (Idealize.ShloMosaic.ix2 1 i)) (fun i => hs _) (fun i => hs _)
    (fun p n k => hx _) (fun k j => w0 _) (fun k j => w1 _) (fun k j => w2 _) (fun j => a0 _) (fun j => a1 _) (fun j => a2 _)
    (fun j => b0 _) (fun j => b1 _) (fun j => b2 _) o]
  refine (R.result_apply V0 (fun i => s (Idealize.ShloMosaic.ix2 0 i)) (fun i => s (Idealize.ShloMosaic.ix2 1 i)) ?_ ?_ ?_ ?_ ?_ ?_ o).trans ?_
  · exact fun i => (congrFun h1 _).trans (hs _)
  · exact fun i => (congrFun h1 _).trans (hs _)
  · exact fun p n k => (congrArg IsR (congrFun h0 _)).mpr (hx _)
  · exact fun k j => (congrArg IsR (congrFun h3 _)).mpr (w0 _)
  · exact fun k j => (congrArg IsR (congrFun h4 _)).mpr (w1 _)
  · exact fun k j => (congrArg IsR (congrFun h5 _)).mpr (w2 _)
  · rw [h0, h2, h3, h4, h5, h6, h7, h8, h9, h10, h11, h12, h13, h14, h15]

theorem claim : Cert.Claim := by
  refine ⟨Cert.Kernel.Gen.facts, Cert.KernelIdeal.Gen.facts, Cert.ReferenceIdeal.Gen.facts, Pre.facts,
    fun m g _ => Cert.Kernel.Gen.frame m g, fun m g _ => Cert.KernelIdeal.Gen.frame m g, fun m g _ => Cert.KernelIdeal.Gen.frame m g,
    reference_frame, fun m g _ => reference_frame m g trivial, IdealRules.named_const.statement _ _ _ _ _ rfl, ?_⟩
  intro m g m' g' hpre hag
  refine ⟨fun c => Cert.KernelIdeal.Value.G16 m c, Cert.KernelIdeal.Value.run (F := Ideal) m g, ?_⟩
  refine (θ_run (Cert.ReferenceIdeal.defs (F := Ideal)) _ _).mono (fun r h c => ⟨?_, (h.2 c).2⟩)
    (θ_run_and (R.run m' g') (Cert.ReferenceIdeal.Value.run (F := Ideal) m' g'))
  obtain ⟨h0, h1, h2, h3, h4, h5, h6, h7, h8, h9, h10, h11, h12, h13, h14, h15⟩ := hag c
  exact (h.1 c).trans (results_eq m (StableHlo.launchContents m' c) c (hf := Pre.facts) hpre h0 h1 h2 h3 h4 h5 h6 h7 h8 h9 h10 h11 h12
    h13 h14 h15)

end Cert.Proof

end
